-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "rt_xy" .f32 0x3CC4CABA#32 (((Real.sqrt ((Real.log 2)⁻¹)) * (1 / 50) : ℝ) : EReal)
  ∧ IdealRules.named_const.Statement Cert.KernelIdeal.κ "rt_rgb" .f32 0x41001EA6#32 (((Real.sqrt ((Real.log 2)⁻¹)) * (33554432 / 5033165) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x128x128 : Shape := ⟨4, ![4, 3, 128, 128]⟩
abbrev S4x21x128x128 : Shape := ⟨4, ![4, 21, 128, 128]⟩
abbrev S4x128x128 : Shape := ⟨3, ![4, 128, 128]⟩
abbrev S_ : Shape := ⟨0, ![]⟩

class Facts : Prop where
  bcast_S_S4x3x128x128 : S_.BroadcastsInDim S4x3x128x128 (![] : Fin 0 → Fin S4x3x128x128.rank)
  reducesTo_S4x3x128x128_S_d0_1_2_3 : S4x3x128x128.ReducesTo [0, 1, 2, 3] S_
  h_S_ : 0 < S_.numel
  bcast_S_S4x21x128x128 : S_.BroadcastsInDim S4x21x128x128 (![] : Fin 0 → Fin S4x21x128x128.rank)
  reducesTo_S4x21x128x128_S_d0_1_2_3 : S4x21x128x128.ReducesTo [0, 1, 2, 3] S_
  bcast_S_S4x128x128 : S_.BroadcastsInDim S4x128x128 (![] : Fin 0 → Fin S4x128x128.rank)
  reducesTo_S4x128x128_S_d0_1_2 : S4x128x128.ReducesTo [0, 1, 2] S_

variable [Facts]

def fn {F : FTy → Type} [FloatOps F] (main_arg0 : FVec F S4x3x128x128 .f32) (main_arg1 : FVec F S4x21x128x128 .f32) (main_arg2 : FVec F S4x128x128 .f32) : IVec S_ 1 :=
  let main_v0 : FVec F S4x3x128x128 .f32 := Host.absf main_arg0
  let main_cst : FVec F S_ .f32 := constant S_ .f32 0x7F800000#32
  let main_v1 : FVec F S4x3x128x128 .f32 := broadcastInDim S4x3x128x128 ![] bcast_S_S4x3x128x128 main_cst
  let main_v2 : IVec S4x3x128x128 1 := cmpf .olt main_v0 main_v1
  let main_c : IVec S_ 1 := constantI S_ 1 1#1
  let main_v3 : IVec S_ 1 := (fun x v => Host.reduce IntOp.andi x v reducesTo_S4x3x128x128_S_d0_1_2_3 h_S_) main_v2 main_c
  let main_v4 : FVec F S4x21x128x128 .f32 := Host.absf main_arg1
  let main_cst_0 : FVec F S_ .f32 := constant S_ .f32 0x7F800000#32
  let main_v5 : FVec F S4x21x128x128 .f32 := broadcastInDim S4x21x128x128 ![] bcast_S_S4x21x128x128 main_cst_0
  let main_v6 : IVec S4x21x128x128 1 := cmpf .olt main_v4 main_v5
  let main_c_1 : IVec S_ 1 := constantI S_ 1 1#1
  let main_v7 : IVec S_ 1 := (fun x v => Host.reduce IntOp.andi x v reducesTo_S4x21x128x128_S_d0_1_2_3 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  main_v13
-- ==== Kernel.lean ====
abbrev S4x3x128x128 : Shape := ⟨4, ![4, 3, 128, 128]⟩
abbrev S4x21x128x128 : Shape := ⟨4, ![4, 21, 128, 128]⟩
abbrev S4x128x128 : Shape := ⟨3, ![4, 128, 128]⟩
abbrev S4x3x16384 : Shape := ⟨3, ![4, 3, 16384]⟩
abbrev S4x21x16384 : Shape := ⟨3, ![4, 21, 16384]⟩
abbrev S4x1x16384 : Shape := ⟨3, ![4, 1, 16384]⟩
abbrev S4x1x24 : Shape := ⟨3, ![4, 1, 24]⟩
abbrev S1x3x16384 : Shape := ⟨3, ![1, 3, 16384]⟩
abbrev S1x21x16384 : Shape := ⟨3, ![1, 21, 16384]⟩
abbrev S1x1x16384 : Shape := ⟨3, ![1, 1, 16384]⟩
abbrev S1x1x24 : Shape := ⟨3, ![1, 1, 24]⟩
abbrev S8x4096 : Shape := ⟨2, ![8, 4096]⟩
abbrev S42x4096 : Shape := ⟨2, ![42, 4096]⟩
abbrev S512x128 : Shape := ⟨2, ![512, 128]⟩
abbrev S3x16384 : Shape := ⟨2, ![3, 16384]⟩
abbrev S1x16384 : Shape := ⟨2, ![1, 16384]⟩
abbrev S8x16384 : Shape := ⟨2, ![8, 16384]⟩
abbrev S21x16384 : Shape := ⟨2, ![21, 16384]⟩
abbrev S42x16384 : Shape := ⟨2, ![42, 16384]⟩
abbrev S8x512 : Shape := ⟨2, ![8, 512]⟩
abbrev S8x128 : Shape := ⟨2, ![8, 128]⟩
abbrev S42x512 : Shape := ⟨2, ![42, 512]⟩
abbrev S42x128 : Shape := ⟨2, ![42, 128]⟩
abbrev S3x4096 : Shape := ⟨2, ![3, 4096]⟩
abbrev S1x4096 : Shape := ⟨2, ![1, 4096]⟩
abbrev S21x4096 : Shape := ⟨2, ![21, 4096]⟩
abbrev S24x4096 : Shape := ⟨2, ![24, 4096]⟩
abbrev S5x4096 : Shape := ⟨2, ![5, 4096]⟩
abbrev S4096 : Shape := ⟨1, ![4096]⟩
abbrev S24x24 : Shape := ⟨2, ![24, 24]⟩
abbrev S24x512 : Shape := ⟨2, ![24, 512]⟩
abbrev S512x4096 : Shape := ⟨2, ![512, 4096]⟩
abbrev S512x24 : Shape := ⟨2, ![512, 24]⟩
abbrev S512x512 : Shape := ⟨2, ![512, 512]⟩
abbrev S24x3584 : Shape := ⟨2, ![24, 3584]⟩
abbrev S512x3584 : Shape := ⟨2, ![512, 3584]⟩
abbrev S24x3072 : Shape := ⟨2, ![24, 3072]⟩
abbrev S512x3072 : Shape := ⟨2, ![512, 3072]⟩
abbrev S24x2560 : Shape := ⟨2, ![24, 2560]⟩
abbrev S512x2560 : Shape := ⟨2, ![512, 2560]⟩
abbrev S24x2048 : Shape := ⟨2, ![24, 2048]⟩
abbrev S512x2048 : Shape := ⟨2, ![512, 2048]⟩
abbrev S24x1536 : Shape := ⟨2, ![24, 1536]⟩
abbrev S512x1536 : Shape := ⟨2, ![512, 1536]⟩
abbrev S24x1024 : Shape := ⟨2, ![24, 1024]⟩
abbrev S512x1024 : Shape := ⟨2, ![512, 1024]⟩
abbrev S24 : Shape := ⟨1, ![24]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4x3x128x128, .f32⟩
  | .hbm, ⟨1, _⟩ => ⟨S4x21x128x128, .f32⟩
  | .hbm, ⟨2, _⟩ => ⟨S4x128x128, .f32⟩
  | .hbm, ⟨3, _⟩ => ⟨S4x3x16384, .f32⟩
  | .hbm, ⟨4, _⟩ => ⟨S4x21x16384, .f32⟩
  | .hbm, ⟨5, _⟩ => ⟨S4x1x16384, .f32⟩
  | .hbm, ⟨6, _⟩ => ⟨S4x1x24, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x3x16384, .f32⟩
  | .local _ .vmem, ⟨1, _⟩ => ⟨S1x3x16384, .f32⟩
  | .local _ .vmem, ⟨2, _⟩ => ⟨S1x21x16384, .f32⟩
  | .local _ .vmem, ⟨3, _⟩ => ⟨S1x21x16384, .f32⟩
  | .local _ .vmem, ⟨4, _⟩ => ⟨S1x1x16384, .f32⟩
  | .local _ .vmem, ⟨5, _⟩ => ⟨S1x1x16384, .f32⟩
  | .local _ .vmem, ⟨6, _⟩ => ⟨S1x1x24, .f32⟩
  | .local _ .vmem, ⟨7, _⟩ => ⟨S1x1x24, .f32⟩
  | .local _ .vmem, ⟨8, _⟩ => ⟨S8x4096, .f32⟩
  | .local _ .vmem, ⟨9, _⟩ => ⟨S42x4096, .f32⟩
  | _, _ => ⟨S4x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x21x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "rt_rgb" => some (((Real.sqrt ((Real.log 2)⁻¹)) * (33554432 / 5033165) : ℝ) : EReal)
  | "rt_xy" => some (((Real.sqrt ((Real.log 2)⁻¹)) * (1 / 50) : ℝ) : EReal)
  | _ => none
-- ==== ReferenceIdeal.lean ====
abbrev S4x3x128x128 : Shape := ⟨4, ![4, 3, 128, 128]⟩
abbrev S4x21x128x128 : Shape := ⟨4, ![4, 21, 128, 128]⟩
abbrev S4x128x128 : Shape := ⟨3, ![4, 128, 128]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S4x3x64x64 : Shape := ⟨4, ![4, 3, 64, 64]⟩
abbrev S4x21x64x64 : Shape := ⟨4, ![4, 21, 64, 64]⟩
abbrev S1x1x1x64 : Shape := ⟨4, ![1, 1, 1, 64]⟩
abbrev S1x1x64x1 : Shape := ⟨4, ![1, 1, 64, 1]⟩
abbrev S4x64x64 : Shape := ⟨3, ![4, 64, 64]⟩
abbrev S4x1x64x64 : Shape := ⟨4, ![4, 1, 64, 64]⟩
abbrev S1x64x64 : Shape := ⟨3, ![1, 64, 64]⟩
abbrev S2x64x64 : Shape := ⟨3, ![2, 64, 64]⟩
abbrev S4x2x64x64 : Shape := ⟨4, ![4, 2, 64, 64]⟩
abbrev S4x5x64x64 : Shape := ⟨4, ![4, 5, 64, 64]⟩
abbrev S4x5x4096 : Shape := ⟨3, ![4, 5, 4096]⟩
abbrev S4x4096x5 : Shape := ⟨3, ![4, 4096, 5]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x21x4096 : Shape := ⟨3, ![4, 21, 4096]⟩
abbrev S4 : Shape := ⟨1, ![4]⟩

abbrev nBuf : Space → Nat
  | .hbm => 304
  | .vmem => 0
  | .smem => 0
  | _ => 0

abbrev hbmTy0_0 (i : Nat) : BufTy := match i % 128 with
  | 0 => ⟨S4x3x128x128, .f32⟩
  | 1 => ⟨S4x21x128x128, .f32⟩
  | 2 => ⟨S4x128x128, .f32⟩
  | 3 => ⟨S64, .i32⟩
  | 4 => ⟨S64, .f32⟩
  | 5 => ⟨S_, .f32⟩
  | 6 => ⟨S64, .f32⟩
  | 7 => ⟨S64, .f32⟩
  | 8 => ⟨S64, .f32⟩
  | 9 => ⟨S64, .i32⟩
  | 10 => ⟨S64, .i32⟩
  | 11 => ⟨S64, .f32⟩
  | 12 => ⟨S_, .f32⟩
  | 13 => ⟨S64, .f32⟩
  | 14 => ⟨S64, .f32⟩
  | 15 => ⟨S64, .f32⟩
  | 16 => ⟨S64, .i32⟩
  | 17 => ⟨S64x1, .i32⟩
  | 18 => ⟨S1x64, .i32⟩
  | 19 => ⟨S_, .i32⟩
  | 20 => ⟨S64x1, .i32⟩
  | 21 => ⟨S64x1, .i1⟩
  | 22 => ⟨S_, .i32⟩
  | 23 => ⟨S64x1, .i32⟩
  | 24 => ⟨S64x1, .i32⟩
  | 25 => ⟨S64x1, .i32⟩
  | 26 => ⟨S_, .i32⟩
  | 27 => ⟨S1x64, .i32⟩
  | 28 => ⟨S1x64, .i1⟩
  | 29 => ⟨S_, .i32⟩
  | 30 => ⟨S1x64, .i32⟩
  | 31 => ⟨S1x64, .i32⟩
  | 32 => ⟨S1x64, .i32⟩
  | 33 => ⟨S64x64, .i32⟩
  | 34 => ⟨S64x64, .i32⟩
  | 35 => ⟨S64x64x1, .i32⟩
  | 36 => ⟨S64x64x1, .i32⟩
  | 37 => ⟨S64x64x2, .i32⟩
  | 38 => ⟨S4x3x64x64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S_, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S64, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S64, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S_, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S64, .f32⟩
  | 86 => ⟨S64, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S64, .f32⟩
  | 94 => ⟨S64, .f32⟩
  | 95 => ⟨S64x1, .f32⟩
  | 96 => ⟨S1x64, .f32⟩
  | 97 => ⟨S64x1, .i32⟩
  | 98 => ⟨S1x64, .i32⟩
  | 99 => ⟨S_, .i32⟩
  | 100 => ⟨S64x1, .i32⟩
  | 101 => ⟨S64x1, .i1⟩
  | 102 => ⟨S_, .i32⟩
  | 103 => ⟨S64x1, .i32⟩
  | 104 => ⟨S64x1, .i32⟩
  | 105 => ⟨S64x1, .i32⟩
  | 106 => ⟨S_, .i32⟩
  | 107 => ⟨S1x64, .i32⟩
  | 108 => ⟨S1x64, .i1⟩
  | 109 => ⟨S_, .i32⟩
  | 110 => ⟨S1x64, .i32⟩
  | 111 => ⟨S1x64, .i32⟩
  | 112 => ⟨S1x64, .i32⟩
  | 113 => ⟨S64x64, .i32⟩
  | 114 => ⟨S64x64, .i32⟩
  | 115 => ⟨S64x64x1, .i32⟩
  | 116 => ⟨S64x64x1, .i32⟩
  | 117 => ⟨S64x64x2, .i32⟩
  | 118 => ⟨S4x21x64x64, .f32⟩
  | 119 => ⟨S64x1, .i32⟩
  | 120 => ⟨S1x64, .i32⟩
  | 121 => ⟨S_, .i32⟩
  | 122 => ⟨S64x1, .i32⟩
  | 123 => ⟨S64x1, .i1⟩
  | 124 => ⟨S_, .i32⟩
  | 125 => ⟨S64x1, .i32⟩
  | 126 => ⟨S64x1, .i32⟩
  | 127 => ⟨S64x1, .i32⟩
  | _ => ⟨S4x3x128x128, .f32⟩

abbrev hbmTy0_1 (i : Nat) : BufTy := match i % 128 with
  | 0 => ⟨S_, .i32⟩
  | 1 => ⟨S1x64, .i32⟩
  | 2 => ⟨S1x64, .i1⟩
  | 3 => ⟨S_, .i32⟩
  | 4 => ⟨S1x64, .i32⟩
  | 5 => ⟨S1x64, .i32⟩
  | 6 => ⟨S1x64, .i32⟩
  | 7 => ⟨S64x64, .i32⟩
  | 8 => ⟨S64x64, .i32⟩
  | 9 => ⟨S64x64x1, .i32⟩
  | 10 => ⟨S64x64x1, .i32⟩
  | 11 => ⟨S64x64x2, .i32⟩
  | 12 => ⟨S4x21x64x64, .f32⟩
  | 13 => ⟨S64x1, .i32⟩
  | 14 => ⟨S1x64, .i32⟩
  | 15 => ⟨S_, .i32⟩
  | 16 => ⟨S64x1, .i32⟩
  | 17 => ⟨S64x1, .i1⟩
  | 18 => ⟨S_, .i32⟩
  | 19 => ⟨S64x1, .i32⟩
  | 20 => ⟨S64x1, .i32⟩
  | 21 => ⟨S64x1, .i32⟩
  | 22 => ⟨S_, .i32⟩
  | 23 => ⟨S1x64, .i32⟩
  | 24 => ⟨S1x64, .i1⟩
  | 25 => ⟨S_, .i32⟩
  | 26 => ⟨S1x64, .i32⟩
  | 27 => ⟨S1x64, .i32⟩
  | 28 => ⟨S1x64, .i32⟩
  | 29 => ⟨S64x64, .i32⟩
  | 30 => ⟨S64x64, .i32⟩
  | 31 => ⟨S64x64x1, .i32⟩
  | 32 => ⟨S64x64x1, .i32⟩
  | 33 => ⟨S64x64x2, .i32⟩
  | 34 => ⟨S4x21x64x64, .f32⟩
  | 35 => ⟨S64x1, .i32⟩
  | 36 => ⟨S1x64, .i32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S_, .i32⟩
  | 45 => ⟨S1x64, .i32⟩
  | 46 => ⟨S1x64, .i1⟩
  | 47 => ⟨S_, .i32⟩
  | 48 => ⟨S1x64, .i32⟩
  | 49 => ⟨S1x64, .i32⟩
  | 50 => ⟨S1x64, .i32⟩
  | 51 => ⟨S64x64, .i32⟩
  | 52 => ⟨S64x64, .i32⟩
  | 53 => ⟨S64x64x1, .i32⟩
  | 54 => ⟨S64x64x1, .i32⟩
  | 55 => ⟨S64x64x2, .i32⟩
  | 56 => ⟨S4x21x64x64, .f32⟩
  | 57 => ⟨S_, .f32⟩
  | 58 => ⟨S1x64, .f32⟩
  | 59 => ⟨S1x64, .f32⟩
  | 60 => ⟨S1x1x1x64, .f32⟩
  | 61 => ⟨S4x21x64x64, .f32⟩
  | 62 => ⟨S4x21x64x64, .f32⟩
  | 63 => ⟨S1x1x1x64, .f32⟩
  | 64 => ⟨S4x21x64x64, .f32⟩
  | 65 => ⟨S4x21x64x64, .f32⟩
  | 66 => ⟨S4x21x64x64, .f32⟩
  | 67 => ⟨S_, .f32⟩
  | 68 => ⟨S1x64, .f32⟩
  | 69 => ⟨S1x64, .f32⟩
  | 70 => ⟨S1x1x1x64, .f32⟩
  | 71 => ⟨S4x21x64x64, .f32⟩
  | 72 => ⟨S4x21x64x64, .f32⟩
  | 73 => ⟨S1x1x1x64, .f32⟩
  | 74 => ⟨S4x21x64x64, .f32⟩
  | 75 => ⟨S4x21x64x64, .f32⟩
  | 76 => ⟨S4x21x64x64, .f32⟩
  | 77 => ⟨S_, .f32⟩
  | 78 => ⟨S64x1, .f32⟩
  | 79 => ⟨S64x1, .f32⟩
  | 80 => ⟨S1x1x64x1, .f32⟩
  | 81 => ⟨S4x21x64x64, .f32⟩
  | 82 => ⟨S4x21x64x64, .f32⟩
  | 83 => ⟨S1x1x64x1, .f32⟩
  | 84 => ⟨S4x21x64x64, .f32⟩
  | 85 => ⟨S4x21x64x64, .f32⟩
  | 86 => ⟨S4x21x64x64, .f32⟩
  | 87 => ⟨S64, .i32⟩
  | 88 => ⟨S64, .f32⟩
  | 89 => ⟨S_, .f32⟩
  | 90 => ⟨S64, .f32⟩
  | 91 => ⟨S64, .f32⟩
  | 92 => ⟨S64, .f32⟩
  | 93 => ⟨S64, .i32⟩
  | 94 => ⟨S64, .i32⟩
  | 95 => ⟨S64, .f32⟩
  | 96 => ⟨S_, .f32⟩
  | 97 => ⟨S64, .f32⟩
  | 98 => ⟨S64, .f32⟩
  | 99 => ⟨S64, .f32⟩
  | 100 => ⟨S64, .i32⟩
  | 101 => ⟨S64x1, .i32⟩
  | 102 => ⟨S1x64, .i32⟩
  | 103 => ⟨S_, .i32⟩
  | 104 => ⟨S64x1, .i32⟩
  | 105 => ⟨S64x1, .i1⟩
  | 106 => ⟨S_, .i32⟩
  | 107 => ⟨S64x1, .i32⟩
  | 108 => ⟨S64x1, .i32⟩
  | 109 => ⟨S64x1, .i32⟩
  | 110 => ⟨S_, .i32⟩
  | 111 => ⟨S1x64, .i32⟩
  | 112 => ⟨S1x64, .i1⟩
  | 113 => ⟨S_, .i32⟩
  | 114 => ⟨S1x64, .i32⟩
  | 115 => ⟨S1x64, .i32⟩
  | 116 => ⟨S1x64, .i32⟩
  | 117 => ⟨S64x64, .i32⟩
  | 118 => ⟨S64x64, .i32⟩
  | 119 => ⟨S64x64x1, .i32⟩
  | 120 => ⟨S64x64x1, .i32⟩
  | 121 => ⟨S64x64x2, .i32⟩
  | 122 => ⟨S4x64x64, .f32⟩
  | 123 => ⟨S4x1x64x64, .f32⟩
  | 124 => ⟨S4x21x64x64, .f32⟩
  | 125 => ⟨S4x21x64x64, .f32⟩
  | 126 => ⟨S64, .f32⟩
  | 127 => ⟨S64, .f32⟩
  | _ => ⟨S4x3x128x128, .f32⟩

abbrev hbmTy0_2 (i : Nat) : BufTy := match i % 128 with
  | 0 => ⟨S64x64, .f32⟩
  | 1 => ⟨S64x64, .f32⟩
  | 2 => ⟨S1x64x64, .f32⟩
  | 3 => ⟨S1x64x64, .f32⟩
  | 4 => ⟨S2x64x64, .f32⟩
  | 5 => ⟨S_, .f32⟩
  | 6 => ⟨S2x64x64, .f32⟩
  | 7 => ⟨S2x64x64, .f32⟩
  | 8 => ⟨S_, .f32⟩
  | 9 => ⟨S4x3x64x64, .f32⟩
  | 10 => ⟨S4x3x64x64, .f32⟩
  | 11 => ⟨S4x2x64x64, .f32⟩
  | 12 => ⟨S4x5x64x64, .f32⟩
  | 13 => ⟨S4x5x4096, .f32⟩
  | 14 => ⟨S4x4096x5, .f32⟩
  | 15 => ⟨S4x4096x5, .f32⟩
  | 16 => ⟨S_, .f32⟩
  | 17 => ⟨S4x4096, .f32⟩
  | 18 => ⟨S4x4096x1, .f32⟩
  | 19 => ⟨S4x1x4096, .f32⟩
  | 20 => ⟨S4x4096x4096, .f32⟩
  | 21 => ⟨S4x4096x4096, .f32⟩
  | 22 => ⟨S4x4096x4096, .f32⟩
  | 23 => ⟨S4x5x4096, .f32⟩
  | 24 => ⟨S4x4096x4096, .f32⟩
  | 25 => ⟨S_, .f32⟩
  | 26 => ⟨S4x4096x4096, .f32⟩
  | 27 => ⟨S4x4096x4096, .f32⟩
  | 28 => ⟨S4x4096x4096, .f32⟩
  | 29 => ⟨S_, .f32⟩
  | 30 => ⟨S4x4096x4096, .f32⟩
  | 31 => ⟨S4x4096x4096, .f32⟩
  | 32 => ⟨S_, .f32⟩
  | 33 => ⟨S4x4096x4096, .f32⟩
  | 34 => ⟨S4x4096x4096, .f32⟩
  | 35 => ⟨S4x4096x4096, .f32⟩
  | 36 => ⟨S4x21x4096, .f32⟩
  | 37 => ⟨S4x21x4096, .f32⟩
  | 38 => ⟨S4x21x4096, .f32⟩
  | 39 => ⟨S_, .f32⟩
  | 40 => ⟨S4, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S4x3x128x128, .f32⟩

abbrev hbmTy (i : Nat) : BufTy := match i / 128 with
  | 0 => hbmTy0_0 i
  | 1 => hbmTy0_1 i
  | 2 => hbmTy0_2 i
  | _ => ⟨S4x3x128x128, .f32⟩

abbrev bufTy : (tb : Table) → Fin (tcTables nBuf tb) → BufTy
  | .hbm, ⟨i, _⟩ => hbmTy i
  | _, _ => ⟨S4x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_cst_15 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_16 : Ref sig .tc := ⟨.hbm, 87, rfl⟩
abbrev main_v56 : Ref sig .tc := ⟨.hbm, 88, rfl⟩
abbrev main_v57 : Ref sig .tc := ⟨.hbm, 89, rfl⟩
abbrev main_c_17 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_18 : Ref sig .tc := ⟨.hbm, 99, rfl⟩
abbrev main_v66 : Ref sig .tc := ⟨.hbm, 100, rfl⟩
abbrev main_v67 : Ref sig .tc := ⟨.hbm, 101, rfl⟩
abbrev main_c_19 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_c_21 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_24 : Ref sig .tc := ⟨.hbm, 128, rfl⟩
abbrev main_v89 : Ref sig .tc := ⟨.hbm, 129, rfl⟩
abbrev main_v90 : Ref sig .tc := ⟨.hbm, 130, rfl⟩
abbrev main_c_25 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_26 : Ref sig .tc := ⟨.hbm, 143, rfl⟩
abbrev main_v102 : Ref sig .tc := ⟨.hbm, 144, rfl⟩
abbrev main_v103 : Ref sig .tc := ⟨.hbm, 145, rfl⟩
abbrev main_c_27 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_28 : Ref sig .tc := ⟨.hbm, 150, rfl⟩
abbrev main_v107 : Ref sig .tc := ⟨.hbm, 151, rfl⟩
abbrev main_v108 : Ref sig .tc := ⟨.hbm, 152, rfl⟩
abbrev main_c_29 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_30 : Ref sig .tc := ⟨.hbm, 165, rfl⟩
abbrev main_v120 : Ref sig .tc := ⟨.hbm, 166, rfl⟩
abbrev main_v121 : Ref sig .tc := ⟨.hbm, 167, rfl⟩
abbrev main_c_31 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_32 : Ref sig .tc := ⟨.hbm, 172, rfl⟩
abbrev main_v125 : Ref sig .tc := ⟨.hbm, 173, rfl⟩
abbrev main_v126 : Ref sig .tc := ⟨.hbm, 174, rfl⟩
abbrev main_c_33 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_34 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_35 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_36 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_37 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_38 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_39 : Ref sig .tc := ⟨.hbm, 231, rfl⟩
abbrev main_v177 : Ref sig .tc := ⟨.hbm, 232, rfl⟩
abbrev main_v178 : Ref sig .tc := ⟨.hbm, 233, rfl⟩
abbrev main_c_40 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_c_41 : Ref sig .tc := ⟨.hbm, 238, rfl⟩
abbrev main_v182 : Ref sig .tc := ⟨.hbm, 239, rfl⟩
abbrev main_v183 : Ref sig .tc := ⟨.hbm, 240, rfl⟩
abbrev main_c_42 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_43 : Ref sig .tc := ⟨.hbm, 261, rfl⟩
abbrev main_v203 : Ref sig .tc := ⟨.hbm, 262, rfl⟩
abbrev main_v204 : Ref sig .tc := ⟨.hbm, 263, rfl⟩
abbrev main_cst_44 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_45 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_cst_46 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_cst_47 : Ref sig .tc := ⟨.hbm, 285, rfl⟩
abbrev main_v223 : Ref sig .tc := ⟨.hbm, 286, rfl⟩
abbrev main_v224 : Ref sig .tc := ⟨.hbm, 287, rfl⟩
abbrev main_cst_48 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_49 : Ref sig .tc := ⟨.hbm, 295, rfl⟩
abbrev main_v231 : Ref sig .tc := ⟨.hbm, 296, rfl⟩
abbrev main_cst_50 : Ref sig .tc := ⟨.hbm, 297, rfl⟩
abbrev main_v232 : Ref sig .tc := ⟨.hbm, 298, rfl⟩
abbrev main_v233 : Ref sig .tc := ⟨.hbm, 299, rfl⟩
abbrev main_cst_51 : Ref sig .tc := ⟨.hbm, 300, rfl⟩
abbrev main_v234 : Ref sig .tc := ⟨.hbm, 301, rfl⟩
abbrev main_cst_52 : Ref sig .tc := ⟨.hbm, 302, rfl⟩
abbrev main_v235 : Ref sig .tc := ⟨.hbm, 303, rfl⟩

abbrev nD : Nat := 1
abbrev τ : Topo := Topo.v7x

variable {F : FTy → Type} [FloatOps F]
-- ==== Proof.Frames.lean ====
/- The three frames and the ledger: each program runs to its end, leaves its arguments as they were and every semaphore at
   zero, and the two constants named in the ideal kernel carry the values that their names state. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite

@[expose] public section

noncomputable section

namespace Cert.Frames

open Idealize.ShloMosaic Idealize.ShloMosaic.TcCoe Idealize.SL.Sem

/-- The kernel on float words runs, keeps its arguments and ends quiescent. -/
theorem kernel : Cert.quiescent_Kernel := fun m ρ _ => Cert.Kernel.Gen.frame m ρ

/-- The ideal kernel runs, keeps its arguments and ends quiescent. -/
theorem kernelIdeal : Cert.quiescent_KernelIdeal := fun m ρ _ => Cert.KernelIdeal.Gen.frame m ρ

/-- The same of the ideal kernel on finite arguments. -/
theorem kernelIdealFinite : Cert.quiescent_KernelIdeal_pre_finite := fun m ρ _ => Cert.KernelIdeal.Gen.frame m ρ

/-- The reference, a straight line of host operations with no semaphore, runs and keeps its arguments. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference on finite arguments. -/
theorem referenceIdealFinite : Cert.quiescent_ReferenceIdeal_pre_finite := fun m ρ _ => referenceIdeal m ρ trivial

/-- The named constants of the ideal kernel: each name's value rounds to the word it stands for. -/
theorem preserves : Cert.preserves_Kernel_KernelIdeal :=
  ⟨IdealRules.named_const.statement Cert.KernelIdeal.κ "rt_xy" .f32 0x3CC4CABA#32 (((Real.sqrt ((Real.log 2)⁻¹)) * (1 / 50) : ℝ) : EReal) rfl,
    IdealRules.named_const.statement Cert.KernelIdeal.κ "rt_rgb" .f32 0x41001EA6#32 (((Real.sqrt ((Real.log 2)⁻¹)) * (33554432 / 5033165) : ℝ) : EReal) rfl⟩

end Cert.Frames

end
-- ==== Proof.Mat.lean ====
/- Matrix products of the ideal kernel read at an index: each of the three arrangements of axes that the kernel multiplies
   in is a sum over the one contracted coordinate, and of real matrices it is the real sum. -/
module

public import Idealize.ShloMosaic.Lib.Pointwise

@[expose] public section

noncomputable section

namespace Cert.Mat

open Idealize.ShloMosaic

/-- A finite sum of reals, read among the extended reals, is the extended reals' sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The `M` by `N` corner of a real matrix as a vector of the ideal instance. -/
abbrev up {M N : ℕ} {φ : FTy} (a : ℕ → ℕ → ℝ) : FVec Ideal ⟨2, ![M, N]⟩ φ := fun i => ((a (i 0).val (i 1).val : ℝ) : EReal)

/-- A vector equal to a real matrix entry by entry is that matrix. -/
theorem eq_up {M N : ℕ} {φ : FTy} {v : FVec Ideal ⟨2, ![M, N]⟩ φ} {a : ℕ → ℕ → ℝ}
    (h : ∀ (r : Fin M) (c : Fin N), v (ix2 r c) = ((a r.val c.val : ℝ) : EReal)) : v = up a :=
  funext fun i => by rw [eq_ix2 i]; exact h _ _

/-- A product with one contracted axis of reals, added to zero, at an index: the real sum of the products of what the
    operands hold along the contracted coordinate. -/
theorem mul_at {A B C D M N K : ℕ} {φ₁ φ₂ : FTy} (d : DotDims ⟨2, ![A, B]⟩ ⟨2, ![C, D]⟩ ⟨2, ![M, N]⟩)
    {x : Fin 2} (hc : d.lhsContracting = [x]) (hK : (![A, B] : Fin 2 → ℕ) x = K) (a b : ℕ → ℕ → ℝ)
    (r : Fin M) (c : Fin N) (f g : ℕ → ℝ)
    (hf : ∀ k : Fin K, a (d.lhsIdx (ix2 r c) (d.contrIdx₁ hc hK k) 0).val (d.lhsIdx (ix2 r c) (d.contrIdx₁ hc hK k) 1).val = f k.val)
    (hg : ∀ k : Fin K, b (d.rhsIdx (ix2 r c) (d.contrIdx₁ hc hK k) 0).val (d.rhsIdx (ix2 r c) (d.contrIdx₁ hc hK k) 1).val = g k.val) :
    matmul (F := Ideal) (φ₁ := φ₁) (φ₂ := φ₂) d none (up a) (up b) (constant _ .f32 0x00000000#32) (ix2 r c)
      = ((∑ k ∈ Finset.range K, f k * g k : ℝ) : EReal) := by
  show Ideal.matmul _ _ _ _ _ = _
  rw [Ideal.matmul_apply₁ _ hc hK, Finset.sum_range, coe_sum]
  show Ideal.ofBits .f32 0x00000000#32 + _ = _
  rw [Ideal.ofBits_zero_f32, zero_add]
  refine Finset.sum_congr rfl fun k _ => ?_
  rw [EReal.coe_mul, ← hf k, ← hg k]
  rfl

/-- The product is of rows by columns: no batch axes, the operands' inner axes contracted. -/
def NN {M K N : ℕ} (d : DotDims ⟨2, ![M, K]⟩ ⟨2, ![K, N]⟩ ⟨2, ![M, N]⟩) : Prop :=
  (d.lhsContracting = [1] ∧ d.rhsContracting = [0]) ∧ (d.lhsNonContracting = [0] ∧ d.rhsNonContracting = [1]) ∧
    d.lhsBatch = [] ∧ d.rhsBatch = []

/-- The product is of rows by rows. -/
def NT {M K N : ℕ} (d : DotDims ⟨2, ![M, K]⟩ ⟨2, ![N, K]⟩ ⟨2, ![M, N]⟩) : Prop :=
  (d.lhsContracting = [1] ∧ d.rhsContracting = [1]) ∧ (d.lhsNonContracting = [0] ∧ d.rhsNonContracting = [0]) ∧
    d.lhsBatch = [] ∧ d.rhsBatch = []

/-- The product is of columns by columns. -/
def TN {M K N : ℕ} (d : DotDims ⟨2, ![K, M]⟩ ⟨2, ![K, N]⟩ ⟨2, ![M, N]⟩) : Prop :=
  (d.lhsContracting = [0] ∧ d.rhsContracting = [0]) ∧ (d.lhsNonContracting = [1] ∧ d.rhsNonContracting = [1]) ∧
    d.lhsBatch = [] ∧ d.rhsBatch = []

/-- Rows by columns: the product of `[M, K]` and `[K, N]`. -/
theorem mul_nn {M K N : ℕ} {φ₁ φ₂ : FTy} (d : DotDims ⟨2, ![M, K]⟩ ⟨2, ![K, N]⟩ ⟨2, ![M, N]⟩) (hd : NN d) (a b : ℕ → ℕ → ℝ) :
    matmul (F := Ideal) (φ₁ := φ₁) (φ₂ := φ₂) d none (up a) (up b) (constant _ .f32 0x00000000#32)
      = up fun r c => ∑ k ∈ Finset.range K, a r k * b k c := by
  obtain ⟨_, _, _, _, _, _, wf⟩ := d
  obtain ⟨⟨h₁, h₂⟩, ⟨h₃, h₄⟩, h₅, h₆⟩ := hd
  subst h₁ h₂ h₃ h₄ h₅ h₆
  exact eq_up fun r c => mul_at (K := K) _ rfl rfl a b r c (fun k => a r.val k) (fun k => b k c.val) (fun _ => rfl) fun _ => rfl

/-- Rows by rows: the product of `[M, K]` and the transpose of `[N, K]`. -/
theorem mul_nt {M K N : ℕ} {φ₁ φ₂ : FTy} (d : DotDims ⟨2, ![M, K]⟩ ⟨2, ![N, K]⟩ ⟨2, ![M, N]⟩) (hd : NT d) (a b : ℕ → ℕ → ℝ) :
    matmul (F := Ideal) (φ₁ := φ₁) (φ₂ := φ₂) d none (up a) (up b) (constant _ .f32 0x00000000#32)
      = up fun r c => ∑ k ∈ Finset.range K, a r k * b c k := by
  obtain ⟨_, _, _, _, _, _, wf⟩ := d
  obtain ⟨⟨h₁, h₂⟩, ⟨h₃, h₄⟩, h₅, h₆⟩ := hd
  subst h₁ h₂ h₃ h₄ h₅ h₆
  exact eq_up fun r c => mul_at (K := K) _ rfl rfl a b r c (fun k => a r.val k) (fun k => b c.val k) (fun _ => rfl) fun _ => rfl

/-- Columns by columns: the product of the transpose of `[K, M]` and `[K, N]`. -/
theorem mul_tn {M K N : ℕ} {φ₁ φ₂ : FTy} (d : DotDims ⟨2, ![K, M]⟩ ⟨2, ![K, N]⟩ ⟨2, ![M, N]⟩) (hd : TN d) (a b : ℕ → ℕ → ℝ) :
    matmul (F := Ideal) (φ₁ := φ₁) (φ₂ := φ₂) d none (up a) (up b) (constant _ .f32 0x00000000#32)
      = up fun r c => ∑ k ∈ Finset.range K, a k r * b k c := by
  obtain ⟨_, _, _, _, _, _, wf⟩ := d
  obtain ⟨⟨h₁, h₂⟩, ⟨h₃, h₄⟩, h₅, h₆⟩ := hd
  subst h₁ h₂ h₃ h₄ h₅ h₆
  exact eq_up fun r c => mul_at (K := K) _ rfl rfl a b r c (fun k => a k r.val) (fun k => b k c.val) (fun _ => rfl) fun _ => rfl

/-- A block of a real matrix is the matrix with its indices moved. -/
theorem slice_up {P W M N o₀ o : ℕ} {φ : FTy} (a : ℕ → ℕ → ℝ) (h : (⟨2, ![P, W]⟩ : Shape).Slices ![o₀, o] ⟨2, ![M, N]⟩) :
    extractStridedSlice ⟨2, ![M, N]⟩ ![o₀, o] (up (φ := φ) a) h = up (φ := φ) fun r c => a (o₀ + r) (o + c) :=
  eq_up fun _ _ => rfl

/-- Rounding to the narrow format keeps a real matrix. -/
theorem truncf_up {M N : ℕ} (a : ℕ → ℕ → ℝ) (h : FTy.bf16.bits < FTy.f32.bits) :
    truncf .bf16 (up (M := M) (N := N) (φ := .f32) a) h = up a := rfl

/-- The sum of two real matrices. -/
theorem add_up {M N : ℕ} {φ : FTy} (a b : ℕ → ℕ → ℝ) :
    addf (up (M := M) (N := N) (φ := φ) a) (up b) = up fun r c => a r c + b r c :=
  eq_up fun _ _ => (EReal.coe_add _ _).symm

/-- The difference of two real matrices. -/
theorem sub_up {M N : ℕ} {φ : FTy} (a b : ℕ → ℕ → ℝ) :
    subf (up (M := M) (N := N) (φ := φ) a) (up b) = up fun r c => a r c - b r c :=
  eq_up fun _ _ => (EReal.coe_sub _ _).symm

/-- The entrywise product of two real matrices. -/
theorem times_up {M N : ℕ} {φ : FTy} (a b : ℕ → ℕ → ℝ) :
    mulf (up (M := M) (N := N) (φ := φ) a) (up b) = up fun r c => a r c * b r c :=
  eq_up fun _ _ => (EReal.coe_mul _ _).symm

/-- A tile's weights: the power of two of the product of the features, capped at zero. -/
theorem weights {K M N : ℕ} (d : DotDims ⟨2, ![K, M]⟩ ⟨2, ![K, N]⟩ ⟨2, ![M, N]⟩) (hd : TN d) (a b : ℕ → ℕ → ℝ)
    (h : FTy.bf16.bits < FTy.f32.bits) :
    truncf .bf16 (exp2 (minimumf (matmul (F := Ideal) (φ₁ := .bf16) (φ₂ := .bf16) d none (up a) (up b) (constant _ .f32 0x00000000#32))
        (broadcast _ (Scalar.ofBits .f32 0x00000000#32)))) h
      = up fun r c => (2 : ℝ) ^ min (∑ k ∈ Finset.range K, a k r * b k c) 0 := by
  rw [mul_tn d hd]
  refine eq_up fun r c => ?_
  show Ideal.exp2 (min ((∑ k ∈ Finset.range K, a k r.val * b k c.val : ℝ) : EReal) (Ideal.ofBits .f32 0x00000000#32)) = _
  rw [Ideal.ofBits_zero_f32, ← EReal.coe_zero, ← EReal.coe_strictMono.monotone.map_min]
  rfl

/-- One tile's term of the `classes` by `classes` product: the block of `B` columns from `o` on the left, and the `N`
    columns from `o` on the right. -/
theorem tile {C W B N o : ℕ} {φ : FTy} (d₁ : DotDims ⟨2, ![B, N]⟩ ⟨2, ![C, N]⟩ ⟨2, ![B, C]⟩) (h₁ : NT d₁)
    (d₂ : DotDims ⟨2, ![C, B]⟩ ⟨2, ![B, C]⟩ ⟨2, ![C, C]⟩) (h₂ : NN d₂) (w s : ℕ → ℕ → ℝ)
    (hl : (⟨2, ![C, W]⟩ : Shape).Slices ![0, o] ⟨2, ![C, B]⟩) (hr : (⟨2, ![C, W]⟩ : Shape).Slices ![0, o] ⟨2, ![C, N]⟩) :
    matmul (F := Ideal) (φ₁ := .f32) (φ₂ := .f32) d₂ none (extractStridedSlice ⟨2, ![C, B]⟩ ![0, o] (up (φ := .f32) s) hl)
        (matmul (F := Ideal) (φ₁ := φ) (φ₂ := φ) d₁ none (up w) (extractStridedSlice ⟨2, ![C, N]⟩ ![0, o] (up (φ := φ) s) hr)
          (constant _ .f32 0x00000000#32)) (constant _ .f32 0x00000000#32)
      = up fun r c => ∑ k ∈ Finset.range B, s r (o + k) * ∑ j ∈ Finset.range N, w k j * s c (o + j) := by
  rw [slice_up, slice_up, mul_nt d₁ h₁, mul_nn d₂ h₂]
  simp only [Nat.zero_add]

end Cert.Mat

end
-- ==== Proof.Consts.lean ====
/- The float constants that the kernel and the reference spell, as the reals their words denote, and the two named
   constants. -/
module

public import Idealize.ShloMosaic.PureOps.Ideal
public import Idealize.ShloMosaic.PureOps.IdealRules
public import proofs.«01_k».proof.Proof.Gen.KernelIdeal

@[expose] public section

noncomputable section

namespace Cert.Consts

open Idealize.ShloMosaic

/-- The word of `2` denotes 2. -/
theorem two : Ideal.ofBits .f32 0x40000000#32 = ((2 : ℝ) : EReal) := by
  simp [Ideal.ofBits, Ideal.ieee, -EReal.coe_mul]; norm_num

/-- The word of `4` denotes 4. -/
theorem four : Ideal.ofBits .f32 0x40800000#32 = ((4 : ℝ) : EReal) := by
  simp [Ideal.ofBits, Ideal.ieee, -EReal.coe_mul]; norm_num

/-- The word of `-1/2` denotes it. -/
theorem neg_half : Ideal.ofBits .f32 0xBF000000#32 = ((-(1 / 2) : ℝ) : EReal) := by
  simp [Ideal.ofBits, Ideal.ieee, -EReal.coe_mul]; norm_num

/-- The word of `1/2` denotes it. -/
theorem half : Ideal.ofBits .f32 0x3F000000#32 = ((1 / 2 : ℝ) : EReal) := by
  simp [Ideal.ofBits, Ideal.ieee, -EReal.coe_mul]; norm_num

/-- The word of `1/4` denotes it. -/
theorem quarter : Ideal.ofBits .f32 0x3E800000#32 = ((1 / 4 : ℝ) : EReal) := by
  simp [Ideal.ofBits, Ideal.ieee, -EReal.coe_mul]; norm_num

/-- The word of `127` denotes it. -/
theorem top : Ideal.ofBits .f32 0x42FE0000#32 = ((127 : ℝ) : EReal) := by
  simp [Ideal.ofBits, Ideal.ieee, -EReal.coe_mul]; norm_num

/-- The word of `50` denotes it. -/
theorem fifty : Ideal.ofBits .f32 0x42480000#32 = ((50 : ℝ) : EReal) := by
  simp [Ideal.ofBits, Ideal.ieee, -EReal.coe_mul]; norm_num

/-- The word nearest `0.15` denotes a dyadic fraction. -/
theorem fifteen : Ideal.ofBits .f32 0x3E19999A#32 = ((5033165 / 33554432 : ℝ) : EReal) := by
  simp [Ideal.ofBits, Ideal.ieee, -EReal.coe_mul]; norm_num

/-- The reference's scale, the word nearest `2e-9`. -/
theorem scale : Ideal.ofBits .f32 0x3109705F#32 = ((9007199 / 4503599627370496 : ℝ) : EReal) := by
  simp [Ideal.ofBits, Ideal.ieee, -EReal.coe_mul]; norm_num

/-- The kernel's scale, the word nearest `-5e-10`: exactly a quarter of the reference's, negated. -/
theorem neg_scale : Ideal.ofBits .f32 0xB009705F#32 = ((-(9007199 / 18014398509481984) : ℝ) : EReal) := by
  simp [Ideal.ofBits, Ideal.ieee, -EReal.coe_mul]; norm_num

/-- The root of the reciprocal of the logarithm of two. -/
def rt : ℝ := Real.sqrt (Real.log 2)⁻¹

/-- The named scale of the two coordinates. -/
theorem rt_xy : Named.named (F := Ideal) Cert.KernelIdeal.κ "rt_xy" (φ := .f32) 0x3CC4CABA#32 = ((rt * (1 / 50) : ℝ) : EReal) :=
  IdealRules.named_const.ideal_named_scalar _ _ _ _ rfl

/-- The named scale of the three colours. -/
theorem rt_rgb : Named.named (F := Ideal) Cert.KernelIdeal.κ "rt_rgb" (φ := .f32) 0x41001EA6#32
    = ((rt * (33554432 / 5033165) : ℝ) : EReal) :=
  IdealRules.named_const.ideal_named_scalar _ _ _ _ rfl

/-- The root's square times the logarithm is one. -/
theorem rt_sq : rt * rt * Real.log 2 = 1 := by
  have h : (0 : ℝ) < Real.log 2 := Real.log_pos (by norm_num)
  unfold rt
  rw [Real.mul_self_sqrt (inv_nonneg.mpr h.le)]
  exact inv_mul_cancel₀ h.ne'

end Cert.Consts

end
-- ==== Proof.Select.lean ====
/- What the two selection matrices of the kernel hold: one in the nearest pixel's row, and a quarter in the rows of the
   four pixels that the half-size image averages. -/
module

public import proofs.«01_k».proof.Proof.Mat
public import proofs.«01_k».proof.Proof.Consts
public import proofs.«01_k».proof.Proof.Gen.KernelIdeal.Skeleton
public import Idealize.ShloMosaic.Lib.WordCmp

@[expose] public section

set_option maxRecDepth 16384

noncomputable section

namespace Cert.Select

open Idealize.ShloMosaic Cert.KernelIdeal Cert.KernelIdeal.Gen Cert.Mat

/-- The first of the two rows of pixels that a lane averages, as a word. -/
theorem row_word : ∀ l : Fin 128, IntOp.muli (256#32)
      (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32)) =
    BitVec.ofNat 32 (256 * (l.val / 64)) := by
  decide +kernel

/-- A lane's column in the half-size image, as a word. -/
theorem column_word : ∀ l : Fin 128, Scalar.select
      (IntOp.andi
        (IntOp.xori
          (IntOp.cmpi CmpIPredicate.slt
            (IntOp.remsi ArithUnit.vector (BitVec.ofNat 32 l.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 l.val)
            (Scalar.select (Scalar.cmpi CmpIPredicate.eq 64#32 0#32) 1#32 64#32))
          0#32))
      (IntOp.addi
        (IntOp.remsi ArithUnit.vector (BitVec.ofNat 32 l.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val)
        (Scalar.select (Scalar.cmpi CmpIPredicate.eq 64#32 0#32) 1#32 64#32)) =
    BitVec.ofNat 32 (l.val % 64) := by
  decide +kernel

/-- The first row's vector at an index. -/
theorem pay2 (k : Fin 512) (l : Fin 128) : k0_pay2 (ix2 k l) = BitVec.ofNat 32 (256 * (l.val / 64)) := by
  pointwise [k0_pay2]
  exact row_word l

/-- The column's vector at an index. -/
theorem pay3 (k : Fin 512) (l : Fin 128) : k0_pay3 (ix2 k l) = BitVec.ofNat 32 (l.val % 64) := by
  pointwise [k0_pay3]
  exact column_word l

/-- The test that a row is a given distance past the lane's first pixel. -/
theorem past (k : Fin 512) (l : Fin 128) (d : ℕ) (hd : d < 512) :
    IntOp.cmpi CmpIPredicate.eq (IntOp.subi (BitVec.ofNat 32 k.val)
        (IntOp.addi (BitVec.ofNat 32 (256 * (l.val / 64))) (IntOp.muli (2#32) (BitVec.ofNat 32 (l.val % 64))))) (BitVec.ofNat 32 d)
      = BitVec.ofBool (decide (k.val = 256 * (l.val / 64) + 2 * (l.val % 64) + d)) := by
  have hk := k.isLt
  have hl := l.isLt
  rw [WordCmp.cmpi_eq_eq_toNat]
  congr 1
  apply decide_eq_decide.mpr
  have h2 : (2#32).toNat = 2 := rfl
  simp only [IntOp.subi, IntOp.addi, IntOp.muli, BitVec.toNat_sub, BitVec.toNat_add, BitVec.toNat_mul, BitVec.toNat_ofNat, h2]
  omega

/-- Selecting by a word that says whether a proposition holds. -/
theorem select_bool {α : Type} {P : Prop} [Decidable P] (a b : α) :
    Scalar.select (BitVec.ofBool (decide P)) a b = if P then a else b := by
  by_cases h : P <;> simp [h, Scalar.select]

/-- The nearest pixel's matrix. -/
def near (k l : ℕ) : ℝ := if k = 256 * (l / 64) + 2 * (l % 64) then 1 else 0

/-- The four pixels' matrix: a quarter at each. -/
def mean (k l : ℕ) : ℝ :=
  (1 / 4) * ((if k = 256 * (l / 64) + 2 * (l % 64) then 1 else 0) + (if k = 256 * (l / 64) + 2 * (l % 64) + 1 then 1 else 0)
    + (if k = 256 * (l / 64) + 2 * (l % 64) + 128 then 1 else 0) + (if k = 256 * (l / 64) + 2 * (l % 64) + 129 then 1 else 0))

/-- The first selection matrix. -/
theorem pay5 : k0_pay5 (F := Ideal) (iota .tc S512x128 32 [0] iota_S512x128_d0_w32) k0_pay2 k0_pay3 2#32 = up near := by
  refine eq_up fun k l => ?_
  pointwise [k0_pay5, k0_pay4]
  rw [pay2, pay3, past k l 0 (by norm_num), select_bool, Nat.add_zero]
  unfold near
  split_ifs <;> rfl

/-- The second selection matrix. -/
theorem pay6 : k0_pay6 (F := Ideal) (iota .tc S512x128 32 [0] iota_S512x128_d0_w32) k0_pay2 k0_pay3 2#32 = up mean := by
  refine eq_up fun k l => ?_
  pointwise [k0_pay6, k0_pay4]
  rw [pay2, pay3, past k l 0 (by norm_num), past k l 1 (by norm_num), past k l 128 (by norm_num), past k l 129 (by norm_num)]
  have ho : ∀ p q : Bool, IntOp.ori (BitVec.ofBool p) (BitVec.ofBool q) = BitVec.ofBool (p || q) := by decide
  rw [ho, ho, ho, ← Bool.decide_or, ← Bool.decide_or, ← Bool.decide_or, select_bool, Consts.quarter, Nat.add_zero]
  unfold mean
  generalize 256 * (l.val / 64) + 2 * (l.val % 64) = a
  by_cases h0 : k.val = a
  · simp [h0]
  by_cases h1 : k.val = a + 1
  · simp [h1]
  by_cases h2 : k.val = a + 128
  · simp [h2]
  by_cases h3 : k.val = a + 129
  · simp [h3]
  simp [h0, h1, h2, h3]

/-- A row of pixels against a lane of the first matrix: the nearest pixel. -/
theorem sum_near (f : ℕ → ℝ) (l : ℕ) (hl : l < 128) :
    ∑ k ∈ Finset.range 512, f k * near k l = f (256 * (l / 64) + 2 * (l % 64)) := by
  unfold near
  simp only [mul_ite, mul_one, mul_zero, Finset.sum_ite_eq', Finset.mem_range]
  rw [if_pos (by omega)]

/-- A row of pixels against a lane of the second matrix: the four pixels' mean. -/
theorem sum_mean (f : ℕ → ℝ) (l : ℕ) (hl : l < 128) :
    ∑ k ∈ Finset.range 512, f k * mean k l = (1 / 4) * (f (256 * (l / 64) + 2 * (l % 64)) + f (256 * (l / 64) + 2 * (l % 64) + 1)
      + f (256 * (l / 64) + 2 * (l % 64) + 128) + f (256 * (l / 64) + 2 * (l % 64) + 129)) := by
  unfold mean
  simp only [mul_left_comm (f _), ← Finset.mul_sum, mul_add, Finset.sum_add_distrib, mul_ite, mul_one, mul_zero, Finset.sum_ite_eq', Finset.mem_range]
  rw [if_pos (by omega), if_pos (by omega), if_pos (by omega), if_pos (by omega)]
  ring

end Cert.Select

end
-- ==== Proof.Scratch.lean ====
/- What the kernel's two scratch buffers hold when it reads them: 32 stores, each a product of 512 columns of pixels with
   a selection matrix, are the blocks of one real matrix. -/
module

public import proofs.«01_k».proof.Proof.Select
public import Idealize.ShloMosaic.Lib.Pipeline.ValueKit
public import Idealize.ShloMosaic.Lib.Pipeline.ReadBack

@[expose] public section

set_option maxRecDepth 16384

noncomputable section

namespace Cert.Scratch

open Idealize.ShloMosaic Cert.KernelIdeal Cert.KernelIdeal.Gen Cert.Mat

/-- What the buffer holds: each group of 128 columns is its 512 columns of pixels against the selection matrix. -/
def gathered (v g : ℕ → ℕ → ℝ) (r p : ℕ) : ℝ := ∑ k ∈ Finset.range 512, v r (512 * (p / 128) + k) * g k (p % 128)

/-- One store is the block of what the buffer holds. -/
theorem stored {M o₁ o₂ : ℕ} (d : DotDims ⟨2, ![M, 512]⟩ ⟨2, ![512, 128]⟩ ⟨2, ![M, 128]⟩) (hd : NN d)
    {V : FVec Ideal ⟨2, ![M, 16384]⟩ .bf16} {v : ℕ → ℕ → ℝ} (hV : V = up v) (g : ℕ → ℕ → ℝ)
    (hs : (⟨2, ![M, 16384]⟩ : Shape).Slices ![0, o₁] ⟨2, ![M, 512]⟩) (hc : (⟨2, ![M, 128]⟩ : Shape).ShapeCasts ⟨2, ![M, 128]⟩)
    (inb : ∀ a, (![0, o₂] : Fin 2 → ℕ) a + (![M, 128] : Fin 2 → ℕ) a ≤ (⟨2, ![M, 4096]⟩ : Shape).size a)
    (h₁ : o₁ = 4 * o₂) (h₂ : o₂ % 128 = 0) (x : (⟨2, ![M, 128]⟩ : Shape).Idx) :
    shapeCast ⟨2, ![M, 128]⟩ (matmul (F := Ideal) (φ₁ := .bf16) (φ₂ := .bf16) d none
        (extractStridedSlice ⟨2, ![M, 512]⟩ ![0, o₁] V hs) (up g) (constant _ .f32 0x00000000#32)) hc x
      = up (M := M) (N := 4096) (φ := .f32) (gathered v g) ((Rect.unit (s := ⟨2, ![M, 4096]⟩) ![0, o₂] ![M, 128] inb).emb x) := by
  rw [hV, slice_up, mul_nn d hd]
  obtain ⟨r, l, rfl⟩ : ∃ (r : Fin M) (l : Fin 128), x = ix2 r l := ⟨_, _, eq_ix2 x⟩
  pointwise
  have hl := l.isLt
  show ((∑ k ∈ Finset.range 512, v r.val (o₁ + k) * g k l.val : ℝ) : EReal)
    = ((gathered v g (0 + 1 * r.val) (o₂ + 1 * l.val) : ℝ) : EReal)
  have e₁ : 512 * ((o₂ + 1 * l.val) / 128) = o₁ := by omega
  have e₂ : (o₂ + 1 * l.val) % 128 = l.val := by omega
  unfold gathered
  rw [e₁, e₂, Nat.zero_add, Nat.one_mul]

/-- Reading a whole buffer back from stores that are blocks of one vector and cover it. -/
theorem readCov_eq {Val : EltTy → Type} [∀ e, Nonempty (Val e)] {sig κ sp s e} (v : View sig κ sp s e) (L : List (View.Piece Val s e))
    (G : s.Idx → Val e) {off : Fin s.rank → ℕ} (inb : ∀ a, off a + s.size a ≤ s.size a) (hP : View.PiecesOf G L)
    (hc : ∀ y : s.Idx, ∃ p ∈ L, y ∈ p.1.set) (h : ∀ a, off a = 0) :
    v.readCov L (Rect.unit off (no_index s.size) inb).toLoadRect = G := by
  rw [View.readCov_eq_canon']
  funext j
  rw [View.canon_apply_of_pieces G L hP.mem _ (hc _)]
  exact congrFun (View.ld_unit_lit inb G h) j

end Cert.Scratch

end
-- ==== Proof.Tiles.lean ====
/- The pairwise part of the kernel's block over real matrices: the weights tile by tile, the two accumulated products of
   classes by classes, and their diagonal, the sum over all pairs of pixels. -/
module

public import proofs.«01_k».proof.Proof.Mat
public import proofs.«01_k».proof.Proof.Consts
public import proofs.«01_k».proof.Proof.Gen.KernelIdeal.Skeleton

@[expose] public section

set_option maxRecDepth 16384

noncomputable section

namespace Cert.Tiles

open Idealize.ShloMosaic Cert.KernelIdeal Cert.KernelIdeal.Gen Cert.Mat

/-- The weight of a pair of pixels, from the left and right rows of features. -/
def wgt (L R : ℕ → ℕ → ℝ) (i j : ℕ) : ℝ := (2 : ℝ) ^ min (∑ k ∈ Finset.range 24, L k i * R k j) 0

/-- One tile's term at two classes: the 512 pixels from `o` against the `N` pixels from `o`. -/
def term (w s : ℕ → ℕ → ℝ) (o N r c : ℕ) : ℝ :=
  ∑ k ∈ Finset.range 512, s r (o + k) * ∑ j ∈ Finset.range N, w (o + k) (o + j) * s c (o + j)

/-- The weights of the tile at `o` over `N` columns. -/
theorem weights_at {N o : ℕ} (d : DotDims ⟨2, ![24, 512]⟩ ⟨2, ![24, N]⟩ ⟨2, ![512, N]⟩) (hd : TN d) (L R : ℕ → ℕ → ℝ)
    (hl : (⟨2, ![24, 4096]⟩ : Shape).Slices ![0, o] ⟨2, ![24, 512]⟩) (hr : (⟨2, ![24, 4096]⟩ : Shape).Slices ![0, o] ⟨2, ![24, N]⟩)
    (h : FTy.bf16.bits < FTy.f32.bits) :
    truncf .bf16 (exp2 (minimumf (matmul (F := Ideal) (φ₁ := .bf16) (φ₂ := .bf16) d none
        (extractStridedSlice ⟨2, ![24, 512]⟩ ![0, o] (up (φ := .bf16) L) hl)
        (extractStridedSlice ⟨2, ![24, N]⟩ ![0, o] (up (φ := .bf16) R) hr) (constant _ .f32 0x00000000#32))
        (broadcast _ (Scalar.ofBits .f32 0x00000000#32)))) h
      = up fun r c => wgt L R (o + r) (o + c) := by
  rw [slice_up, slice_up, weights d hd]
  simp only [Nat.zero_add]
  rfl

/-- The first 512 columns of a tile's weights. -/
theorem weights_left {N o : ℕ} (w : ℕ → ℕ → ℝ) {X : FVec Ideal ⟨2, ![512, N]⟩ .bf16} (hX : X = up fun r c => w (o + r) (o + c))
    (h : (⟨2, ![512, N]⟩ : Shape).Slices ![0, 0] ⟨2, ![512, 512]⟩) :
    extractStridedSlice ⟨2, ![512, 512]⟩ ![0, 0] X h = up (φ := .bf16) fun r c => w (o + r) (o + c) := by
  rw [hX, slice_up]; simp only [Nat.zero_add]

/-- A tile's term added to what is accumulated. -/
theorem tile_add {N o : ℕ} {φ : FTy} (d₁ : DotDims ⟨2, ![512, N]⟩ ⟨2, ![24, N]⟩ ⟨2, ![512, 24]⟩) (h₁ : NT d₁)
    (d₂ : DotDims ⟨2, ![24, 512]⟩ ⟨2, ![512, 24]⟩ ⟨2, ![24, 24]⟩) (h₂ : NN d₂) {w s a : ℕ → ℕ → ℝ}
    (hl : (⟨2, ![24, 4096]⟩ : Shape).Slices ![0, o] ⟨2, ![24, 512]⟩)
    {A : FVec Ideal ⟨2, ![24, 24]⟩ .f32} (hA : A = up a) {W : FVec Ideal ⟨2, ![512, N]⟩ φ} (hW : W = up fun r c => w (o + r) (o + c))
    {T : FVec Ideal ⟨2, ![24, N]⟩ φ} (hT : T = up fun r c => s r (o + c)) :
    addf A (matmul (F := Ideal) d₂ none (extractStridedSlice ⟨2, ![24, 512]⟩ ![0, o] (up (φ := .f32) s) hl)
        (matmul (F := Ideal) d₁ none W T (constant _ .f32 0x00000000#32)) (constant _ .f32 0x00000000#32))
      = up fun r c => a r c + term w s o N r c := by
  rw [hA, hW, hT, slice_up, mul_nt d₁ h₁, mul_nn d₂ h₂, add_up]; simp only [Nat.zero_add]; rfl

/-- A slice of columns of the real matrix of classes. -/
theorem cols {N o : ℕ} {φ : FTy} (s : ℕ → ℕ → ℝ) (hr : (⟨2, ![24, 4096]⟩ : Shape).Slices ![0, o] ⟨2, ![24, N]⟩) :
    extractStridedSlice ⟨2, ![24, N]⟩ ![0, o] (up (φ := φ) s) hr = up (φ := φ) fun r c => s r (o + c) := by
  rw [slice_up]; simp only [Nat.zero_add]

section
variable (L R s : ℕ → ℕ → ℝ)

/-- The weights of the tile at pixel 512. -/
theorem pay97 : k0_pay97 (F := Ideal) (up L) (up R) = up fun r c => wgt L R (512 + r) (512 + c) :=
  weights_at _ ⟨⟨rfl, rfl⟩, ⟨rfl, rfl⟩, rfl, rfl⟩ L R _ _ _

/-- The weights of the tile at pixel 1024. -/
theorem pay99 : k0_pay99 (F := Ideal) (up L) (up R) = up fun r c => wgt L R (1024 + r) (1024 + c) :=
  weights_at _ ⟨⟨rfl, rfl⟩, ⟨rfl, rfl⟩, rfl, rfl⟩ L R _ _ _

/-- The weights of the tile at pixel 1536. -/
theorem pay103 : k0_pay103 (F := Ideal) (up L) (up R) = up fun r c => wgt L R (1536 + r) (1536 + c) :=
  weights_at _ ⟨⟨rfl, rfl⟩, ⟨rfl, rfl⟩, rfl, rfl⟩ L R _ _ _

/-- The weights of the tile at pixel 2048. -/
theorem pay104 : k0_pay104 (F := Ideal) (up L) (up R) = up fun r c => wgt L R (2048 + r) (2048 + c) :=
  weights_at _ ⟨⟨rfl, rfl⟩, ⟨rfl, rfl⟩, rfl, rfl⟩ L R _ _ _

/-- The weights of the tile at pixel 3072. -/
theorem pay110 : k0_pay110 (F := Ideal) (up L) (up R) = up fun r c => wgt L R (3072 + r) (3072 + c) :=
  weights_at _ ⟨⟨rfl, rfl⟩, ⟨rfl, rfl⟩, rfl, rfl⟩ L R _ _ _

/-- The weights of the tile at pixel 3584. -/
theorem pay112 : k0_pay112 (F := Ideal) (up L) (up R) = up fun r c => wgt L R (3584 + r) (3584 + c) :=
  weights_at _ ⟨⟨rfl, rfl⟩, ⟨rfl, rfl⟩, rfl, rfl⟩ L R _ _ _

/-- The weights of the tile at pixel 2560. -/
theorem pay109 : k0_pay109 (k0_pay107 (F := Ideal) (up L) (up R)) (k0_pay108 (F := Ideal)) = up fun r c => wgt L R (2560 + r) (2560 + c) :=
  weights_at _ ⟨⟨rfl, rfl⟩, ⟨rfl, rfl⟩, rfl, rfl⟩ L R _ _ _

/-- The zero matrix that an accumulation starts from. -/
theorem zero_up : broadcast (⟨2, ![24, 24]⟩ : Shape) (Scalar.ofBits (F := Ideal) .f32 0x00000000#32) = up fun _ _ => 0 :=
  eq_up fun _ _ => Ideal.ofBits_zero_f32

variable {v : FVec Ideal S512x4096 .f32} (hv : k0_pay96 (F := Ideal) v (Scalar.ofBits .f32 0x00000000#32) = up fun r c => wgt L R (0 + r) (0 + c))

include hv in
/-- The product accumulated over whole tiles. -/
theorem whole :
    k0_pay113 (F := Ideal) (up s) (up s) (up L) (up R)
        (k0_pay105 (up s) (up s) (up L) (up R)
          (k0_pay100 (up s) (up s) (up L) (up R) k0_pay93 v (Scalar.ofBits .f32 0x00000000#32)))
        (k0_pay107 (up L) (up R)) k0_pay108
      = up fun r c => 0 + term (wgt L R) s 0 4096 r c + term (wgt L R) s 512 3584 r c + term (wgt L R) s 1024 3072 r c
          + term (wgt L R) s 1536 2560 r c + term (wgt L R) s 2048 2048 r c + term (wgt L R) s 2560 1536 r c
          + term (wgt L R) s 3072 1024 r c + term (wgt L R) s 3584 512 r c :=
  tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (zero_up)
    (hv) (by simp only [Nat.zero_add]))
    (pay97 L R) (cols s _))
    (pay99 L R) (cols s _))
    (pay103 L R) (cols s _))
    (pay104 L R) (cols s _))
    (pay109 L R) (cols s _))
    (pay110 L R) (cols s _))
    (pay112 L R) (cols s _)

include hv in
/-- The product accumulated over the tiles' first squares, all but the last. -/
theorem squares :
    k0_pay111 (F := Ideal) (up s) (up s) (up L) (up R)
        (k0_pay106 (up s) (up s) (up L) (up R)
          (k0_pay98 (up s) (up s) (up L) (up R) k0_pay94 v (Scalar.ofBits .f32 0x00000000#32))
          (k0_pay101 (up L) (up R)) (k0_pay102 (up s)))
        (k0_pay107 (up L) (up R)) k0_pay108
      = up fun r c => 0 + term (wgt L R) s 0 512 r c + term (wgt L R) s 512 512 r c + term (wgt L R) s 1024 512 r c
          + term (wgt L R) s 1536 512 r c + term (wgt L R) s 2048 512 r c + term (wgt L R) s 2560 512 r c
          + term (wgt L R) s 3072 512 r c :=
  tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (tile_add _ ⟨⟨rfl, rfl⟩, ⟨rfl, rfl⟩, rfl, rfl⟩ _ ⟨⟨rfl, rfl⟩, ⟨rfl, rfl⟩, rfl, rfl⟩ _
    (zero_up)
    (weights_left (wgt L R) (hv) (by decide)) (cols s (by decide)))
    (weights_left (wgt L R) (pay97 L R) (by decide)) (cols s (by decide)))
    (weights_left (wgt L R) (pay99 L R) (by decide)) (cols s (by decide)))
    (weights_left (wgt L R) (pay103 L R) (by decide)) (cols s (by decide)))
    (weights_left (wgt L R) (pay104 L R) (by decide)) (cols s (by decide)))
    (weights_left (wgt L R) (pay109 L R) (by decide)) (cols s (by decide)))
    (weights_left (wgt L R) (pay110 L R) (by decide)) (cols s (by decide))

/-- The diagonal of twice one matrix less another, the columns summed. -/
theorem diagonal (a d : ℕ → ℕ → ℝ) (y : Fin 24) :
    shapeCast S1x1x24 (multiReduction (F := Ideal) .add [0] S24 (select (cmpi .eq (iota .tc S24x24 32 [0] iota_S24x24_d0_w32)
        (iota .tc S24x24 32 [1] iota_S24x24_d1_w32)) (subf (mulf (broadcast S24x24 (Scalar.ofBits .f32 0x40000000#32)) (up a)) (up d))
        (broadcast S24x24 (Scalar.ofBits .f32 0x00000000#32))) 0x00000000#32 reduces_S24x24_S24 (.inl rfl) rfl) shapeCasts_S24_S1x1x24
      (ix3 (0 : Fin 1) (0 : Fin 1) y) = ((2 * a y y - d y y : ℝ) : EReal) := by
  have hi : ∀ x y : Fin 24, IntOp.cmpi .eq (BitVec.ofNat 32 x.val) (BitVec.ofNat 32 y.val) = if x = y then 1#1 else 0#1 := by decide
  pointwise
  rw [Finset.sum_eq_single y (fun x _ h => by rw [hi, if_neg h]; rfl) (fun h => absurd (Finset.mem_univ _) h), hi, if_pos rfl, Consts.two]
  show ((2 : ℝ) : EReal) * ((a y.val y.val : ℝ) : EReal) - ((d y.val y.val : ℝ) : EReal) = _
  rw [← EReal.coe_mul, ← EReal.coe_sub]

/-- The block's last value, from the two accumulated products: their diagonal. -/
theorem last {P A : FVec Ideal S24x24 .f32} {p a : ℕ → ℕ → ℝ} (hP : P = up p) (hA : A = up a) (y : Fin 24) :
    k0_pay1 (F := Ideal) (up s) P (k0_pay112 (up L) (up R)) A (k0_pay114 (up s)) (constant _ .f32 0x00000000#32)
        (ix3 (0 : Fin 1) (0 : Fin 1) y)
      = ((2 * a y y - (p y y + term (wgt L R) s 3584 512 y y) : ℝ) : EReal) := by
  rw [← diagonal a fun r c => p r c + term (wgt L R) s 3584 512 r c,
    ← tile_add dot_S512x512_S24x512_S512x24_1_1_0_0_n_n ⟨⟨rfl, rfl⟩, ⟨rfl, rfl⟩, rfl, rfl⟩
      dot_S24x512_S512x24_S24x24_1_0_0_1_n_n ⟨⟨rfl, rfl⟩, ⟨rfl, rfl⟩, rfl, rfl⟩ slices_S24x4096_o0_3584_S24x512 hP (pay112 L R)
      (cols s slices_S24x4096_o0_3584_S24x512), hA]
  rfl

end

/-- Splitting a square of pairs at its first `B` rows and columns: for a symmetric function it is twice the first rows,
    less their square, and the rest's square. -/
theorem split_square (g : ℕ → ℕ → ℝ) (hg : ∀ i j, g i j = g j i) (o B N : ℕ) :
    ∑ i ∈ Finset.range (B + N), ∑ j ∈ Finset.range (B + N), g (o + i) (o + j)
      = 2 * (∑ i ∈ Finset.range B, ∑ j ∈ Finset.range (B + N), g (o + i) (o + j))
        - (∑ i ∈ Finset.range B, ∑ j ∈ Finset.range B, g (o + i) (o + j))
        + ∑ i ∈ Finset.range N, ∑ j ∈ Finset.range N, g (o + B + i) (o + B + j) := by
  have h : ∑ i ∈ Finset.range N, ∑ j ∈ Finset.range B, g (o + B + i) (o + j)
      = ∑ i ∈ Finset.range B, ∑ j ∈ Finset.range N, g (o + i) (o + B + j) := by
    rw [Finset.sum_comm]
    exact Finset.sum_congr rfl fun i _ => Finset.sum_congr rfl fun j _ => hg _ _
  simp only [Finset.sum_range_add, Finset.sum_add_distrib, ← Nat.add_assoc, h]
  ring

/-- A tile's term at one class is a sum of a product over pairs. -/
theorem term_eq (w s : ℕ → ℕ → ℝ) (o N c : ℕ) :
    term w s o N c c = ∑ i ∈ Finset.range 512, ∑ j ∈ Finset.range N, (fun i j => s c i * (w i j * s c j)) (o + i) (o + j) := by
  unfold term; simp only [Finset.mul_sum]

/-- The eight tiles with their symmetric halves make up all pairs of pixels. -/
theorem all_pairs (w s : ℕ → ℕ → ℝ) (hw : ∀ i j, w i j = w j i) (c : ℕ) :
    2 * (0 + term w s 0 4096 c c + term w s 512 3584 c c + term w s 1024 3072 c c + term w s 1536 2560 c c
        + term w s 2048 2048 c c + term w s 2560 1536 c c + term w s 3072 1024 c c + term w s 3584 512 c c)
      - (0 + term w s 0 512 c c + term w s 512 512 c c + term w s 1024 512 c c + term w s 1536 512 c c
        + term w s 2048 512 c c + term w s 2560 512 c c + term w s 3072 512 c c + term w s 3584 512 c c)
      = ∑ i ∈ Finset.range 4096, ∑ j ∈ Finset.range 4096, s c i * (w i j * s c j) := by
  have hg : ∀ i j, (fun i j => s c i * (w i j * s c j)) i j = (fun i j => s c i * (w i j * s c j)) j i := by
    intro i j; show s c i * (w i j * s c j) = s c j * (w j i * s c i); rw [hw i j]; ring
  have e := fun o N => split_square _ hg o 512 N
  simp only [term_eq]
  have h0 := e 0 3584; have h1 := e 512 3072; have h2 := e 1024 2560; have h3 := e 1536 2048
  have h4 := e 2048 1536; have h5 := e 2560 1024; have h6 := e 3072 512; have h7 := e 3584 0
  simp only [Nat.reduceAdd, Finset.sum_range_zero, Nat.zero_add] at h0 h1 h2 h3 h4 h5 h6 h7 ⊢
  linarith

/-- The first tile's weights, from the two rows of features. -/
theorem first {a : FVec Ideal S3x4096 .f32} {b c : FVec Ideal S1x4096 .f32} {d : Ideal .f32} {L R : ℕ → ℕ → ℝ}
    (hL : k0_pay91 a b c d = up L) (hR : k0_pay92 a b c d = up R) :
    k0_pay96 (F := Ideal) (k0_pay95 a b c d) (Scalar.ofBits .f32 0x00000000#32) = up fun r c => wgt L R (0 + r) (0 + c) := by
  unfold k0_pay95
  simp only [hL, hR]
  rw [← weights_at dot_S24x512_S24x4096_S512x4096_0_0_1_1_n_n ⟨⟨rfl, rfl⟩, ⟨rfl, rfl⟩, rfl, rfl⟩ L R
    slices_S24x4096_o0_0_S24x512 (by decide) bitsLt_bf16_f32, slice_up (o := 0) R (by decide)]
  simp only [Nat.zero_add]
  rfl

end Cert.Tiles

end
-- ==== Proof.Features.lean ====
/- The features of a pixel in the kernel's block: its two coordinates and three colours, scaled, and the rows that the
   products of the tiles read, as real matrices. -/
module

public import proofs.«01_k».proof.Proof.Mat
public import proofs.«01_k».proof.Proof.Consts
public import proofs.«01_k».proof.Proof.Gen.KernelIdeal.Skeleton

@[expose] public section

set_option maxRecDepth 16384

noncomputable section

namespace Cert.Features

open Idealize.ShloMosaic Cert.KernelIdeal Cert.KernelIdeal.Gen Cert.Mat

/-- Selecting by a word that says whether a proposition holds. -/
theorem select_ite {α : Type} {P : Prop} [Decidable P] (a b : α) : Scalar.select (if P then 1#1 else 0#1) a b = if P then a else b := by
  split <;> rfl

/-- A pixel's column in the scaled image, as the kernel computes it from the pixel's number. -/
theorem column_word : ∀ c : Fin 4096,
    (Scalar.select
          (IntOp.andi
            (IntOp.xori
              (IntOp.cmpi CmpIPredicate.slt
                (IntOp.remsi ArithUnit.vector (BitVec.ofNat 32 c.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 c.val)
                (Scalar.select (Scalar.cmpi CmpIPredicate.eq 64#32 0#32) 1#32 64#32))
              0#32))
          (IntOp.addi
            (IntOp.remsi ArithUnit.vector (BitVec.ofNat 32 c.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 c.val)
            (Scalar.select (Scalar.cmpi CmpIPredicate.eq 64#32 0#32) 1#32 64#32)) : BitVec 32).toInt = ((c.val % 64 : ℕ) : ℤ) := by
  decide +kernel

/-- A pixel's row in the scaled image, as the kernel computes it from the pixel's number. -/
theorem row_word : ∀ c : Fin 4096,
    (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) : BitVec 32).toInt = ((c.val / 64 : ℕ) : ℤ) := by
  decide +kernel

/-- A word read as a natural number is that number as a real. -/
theorem of_word {w : BitVec 32} {n : ℕ} (h : w.toInt = (n : ℤ)) : FloatOps.sitofp (F := Ideal) .f32 w = ((n : ℝ) : EReal) := by
  show ((w.toInt : ℝ) : EReal) = _
  rw [h]; norm_num

/-- The column's feature. -/
theorem pay85 : k0_pay85 (F := Ideal) = up fun _ p => ((p % 64 : ℕ) : ℝ) * (Consts.rt * (1 / 50)) := by
  refine eq_up fun r c => ?_
  pointwise [k0_pay85]
  rw [of_word (column_word c), Consts.rt_xy, ← EReal.coe_mul]

/-- The row, not yet scaled. -/
theorem pay86 : k0_pay86 (F := Ideal) = up fun _ p => ((p / 64 : ℕ) : ℝ) := by
  refine eq_up fun r c => ?_
  pointwise [k0_pay86]
  rw [of_word (row_word c)]

/-- The feature of a pixel: its column, its row, its three colours, each scaled. -/
def feat (X : ℕ → ℕ → ℝ) (a p : ℕ) : ℝ :=
  if a < 1 then ((p % 64 : ℕ) : ℝ) * (Consts.rt * (1 / 50)) else if a - 1 < 1 then ((p / 64 : ℕ) : ℝ) * (Consts.rt * (1 / 50))
  else X (a - 1 - 1) p * (Consts.rt * (33554432 / 5033165))

/-- Minus half of the feature's square. -/
def half (X : ℕ → ℕ → ℝ) (p : ℕ) : ℝ := -(1 / 2) * ∑ a ∈ Finset.range 5, feat X a p * feat X a p

section
variable (X : ℕ → ℕ → ℝ)

/-- The five rows of features. -/
theorem pay87 :
    k0_pay87 (F := Ideal) (up X) k0_pay85 k0_pay86 (Named.named Cert.KernelIdeal.κ "rt_xy" 0x3CC4CABA#32) = up (feat X) := by
  rw [pay85, pay86, Consts.rt_xy]
  refine eq_up fun r c => ?_
  pointwise [k0_pay87]
  unfold feat
  rw [Consts.rt_rgb]
  split_ifs <;> simp only [EReal.coe_mul] <;> rfl

/-- The row of minus half the squares. -/
theorem pay88 :
    k0_pay88 (F := Ideal) (up X) k0_pay85 k0_pay86 (Named.named Cert.KernelIdeal.κ "rt_xy" 0x3CC4CABA#32)
      = up fun _ p => half X p := by
  unfold k0_pay88
  rw [pay87]
  refine eq_up fun r c => ?_
  pointwise
  unfold half
  rw [Consts.neg_half, EReal.coe_mul, Finset.sum_range, coe_sum]
  simp only [EReal.coe_mul]
  rfl

/-- The rows that the left features are stacked from. -/
def left (k p : ℕ) : ℝ :=
  if k < 5 then feat X k p else if k - 5 < 5 then feat X (k - 5) p else if k - 5 - 5 < 5 then feat X (k - 5 - 5) p
  else if k - 5 - 5 - 5 < 1 then half X p else if k - 5 - 5 - 5 - 1 < 1 then half X p
  else if k - 5 - 5 - 5 - 1 - 1 < 1 then 1 else if k - 5 - 5 - 5 - 1 - 1 - 1 < 1 then 1 else 0

/-- The rows that the right features are stacked from. -/
def right (k p : ℕ) : ℝ :=
  if k < 5 then feat X k p else if k - 5 < 5 then feat X (k - 5) p else if k - 5 - 5 < 5 then feat X (k - 5 - 5) p
  else if k - 5 - 5 - 5 < 1 then 1 else if k - 5 - 5 - 5 - 1 < 1 then 1
  else if k - 5 - 5 - 5 - 1 - 1 < 1 then half X p else if k - 5 - 5 - 5 - 1 - 1 - 1 < 1 then half X p else 0

/-- The left features: where a row holds what rounding left over, nothing is. -/
def leftRow (k p : ℕ) : ℝ := if (5 ≤ k ∧ k < 10) ∨ k = 16 then 0 else left X k p

/-- The right features. -/
def rightRow (k p : ℕ) : ℝ := if (10 ≤ k ∧ k < 15) ∨ k = 18 then 0 else right X k p

/-- Where the left rows hold a rounding's remainder, by the row's word. -/
theorem left_mask : ∀ r : Fin 24, IntOp.ori
        (IntOp.andi (IntOp.cmpi CmpIPredicate.sge (BitVec.ofNat 32 r.val) 5#32)
          (IntOp.cmpi CmpIPredicate.slt (BitVec.ofNat 32 r.val) 10#32))
        (IntOp.cmpi CmpIPredicate.eq (BitVec.ofNat 32 r.val) 16#32) = if (5 ≤ r.val ∧ r.val < 10) ∨ r.val = 16 then 1#1 else 0#1 := by
  decide

/-- Where the right rows hold a rounding's remainder, by the row's word. -/
theorem right_mask : ∀ r : Fin 24, IntOp.ori
        (IntOp.andi (IntOp.cmpi CmpIPredicate.sge (BitVec.ofNat 32 r.val) 10#32)
          (IntOp.cmpi CmpIPredicate.slt (BitVec.ofNat 32 r.val) 15#32))
        (IntOp.cmpi CmpIPredicate.eq (BitVec.ofNat 32 r.val) 18#32) = if (10 ≤ r.val ∧ r.val < 15) ∨ r.val = 18 then 1#1 else 0#1 := by
  decide

/-- A rounding's remainder is zero here: selecting it selects zero. -/
theorem remainder {P : Prop} [Decidable P] {v : EReal} {a : ℝ} (h : v = (a : EReal)) :
    (if P then v - v else v) = ((if P then 0 else a : ℝ) : EReal) := by
  split
  · rw [h, ← EReal.coe_sub, sub_self]
  · exact h

/-- The left rows of features. -/
theorem pay91 :
    k0_pay91 (F := Ideal) (up X) k0_pay85 k0_pay86 (Named.named Cert.KernelIdeal.κ "rt_xy" 0x3CC4CABA#32) = up (leftRow X) := by
  unfold k0_pay91
  rw [pay87, pay88]
  refine eq_up fun r c => ?_
  pointwise [k0_pay89, k0_pay90]
  rw [left_mask, select_ite]
  refine remainder ?_
  unfold left
  split_ifs <;> rfl

/-- The right rows of features. -/
theorem pay92 :
    k0_pay92 (F := Ideal) (up X) k0_pay85 k0_pay86 (Named.named Cert.KernelIdeal.κ "rt_xy" 0x3CC4CABA#32) = up (rightRow X) := by
  unfold k0_pay92
  rw [pay87, pay88]
  refine eq_up fun r c => ?_
  pointwise [k0_pay89, k0_pay90]
  rw [right_mask, select_ite]
  refine remainder ?_
  unfold right
  split_ifs <;> rfl

/-- The product of a pixel's left rows and another's right rows. -/
theorem rows_product (i j : ℕ) : ∑ k ∈ Finset.range 24, leftRow X k i * rightRow X k j
    = (∑ a ∈ Finset.range 5, feat X a i * feat X a j) + half X i + half X j := by
  have h : ∀ k ∈ Finset.range 24, leftRow X k i * rightRow X k j
      = (if k < 5 then feat X k i * feat X k j else 0) + ((if k = 15 then half X i else 0) + (if k = 17 then half X j else 0)) := by
    intro k hk
    have hk := Finset.mem_range.mp hk
    interval_cases k <;> simp [leftRow, rightRow, left, right]
  rw [Finset.sum_congr rfl h, Finset.sum_add_distrib, Finset.sum_add_distrib]
  simp [Finset.sum_range_succ, add_assoc]

end

end Cert.Features

end
-- ==== Proof.Block.lean ====
/- What one block of the ideal kernel leaves in its output, over real inputs. -/
module

public import proofs.«01_k».proof.Proof.Scratch
public import proofs.«01_k».proof.Proof.Tiles
public import proofs.«01_k».proof.Proof.Features
public import proofs.«01_k».proof.Proof.Gen.KernelIdeal.Frame

@[expose] public section

set_option maxRecDepth 16384

noncomputable section

namespace Cert.Block

open Idealize.ShloMosaic Idealize.ShloMosaic.Exec Cert.KernelIdeal Cert.KernelIdeal.Gen Cert.Mat

/-- The first of the four pixels that the half-size image's pixel `p` averages; the nearest one too. -/
def pix (p : ℕ) : ℕ := 256 * (p / 64) + 2 * (p % 64)

/-- A class's scores at half size, masked by the region of interest. -/
def masked (S : ℕ → ℕ → ℝ) (ro : ℕ → ℝ) (c p : ℕ) : ℝ :=
  if c < 21 then (1 / 4) * (S c (pix p) + S c (pix p + 1) + S c (pix p + 128) + S c (pix p + 129)) * ro (pix p) else 0

/-- The rows of the image and of the region of interest, each with its rounding's remainder, zero. -/
def rows (I : ℕ → ℕ → ℝ) (ro : ℕ → ℝ) (r q : ℕ) : ℝ :=
  if r < 3 then I r q else if r - 3 < 3 then 0 else if r - 3 - 3 < 1 then ro q else 0

/-- The rows of the classes, with their roundings' remainders, zero. -/
def classRows (S : ℕ → ℕ → ℝ) (r q : ℕ) : ℝ := if r < 21 then S r q else 0

/-- The rows of the image and the region of interest as the kernel stacks them. -/
theorem pay7 (x0 : Vec Ideal S1x3x16384 .f32) (x2 : Vec Ideal S1x1x16384 .f32) (I : ℕ → ℕ → ℝ) (ro : ℕ → ℝ)
    (h0 : ∀ (a : Fin 3) (q : Fin 16384), x0 (ix3 (0 : Fin 1) a q) = ((I a.val q.val : ℝ) : EReal))
    (h2 : ∀ q : Fin 16384, x2 (ix3 (0 : Fin 1) (0 : Fin 1) q) = ((ro q.val : ℝ) : EReal)) :
    k0_pay7 (F := Ideal) x0 x2 = up (rows I ro) := by
  refine eq_up fun r c => ?_
  pointwise [k0_pay7]
  unfold rows
  by_cases a : r.val < 3
  · rw [dif_pos a, if_pos a]; exact h0 _ _
  rw [dif_neg a, if_neg a]
  by_cases b : r.val - 3 < 3
  · rw [dif_pos b, if_pos b, h0, ← EReal.coe_sub, sub_self]
  rw [dif_neg b, if_neg b]
  by_cases d : r.val - 3 - 3 < 1
  · rw [dif_pos d, if_pos d]; exact h2 _
  rw [dif_neg d, if_neg d, h2, ← EReal.coe_sub, sub_self]

/-- The rows of the classes as the kernel stacks them. -/
theorem pay11 (x1 : Vec Ideal S1x21x16384 .f32) (S : ℕ → ℕ → ℝ)
    (h1 : ∀ (a : Fin 21) (q : Fin 16384), x1 (ix3 (0 : Fin 1) a q) = ((S a.val q.val : ℝ) : EReal)) :
    k0_pay11 (F := Ideal) (k0_pay8 x1) (k0_pay9 x1) (k0_pay10 x1) = up (classRows S) := by
  refine eq_up fun r c => ?_
  pointwise [k0_pay11, k0_pay8, k0_pay9, k0_pay10]
  unfold classRows
  by_cases a : r.val < 21
  · rw [dif_pos a, if_pos a]; exact h1 _ _
  rw [dif_neg a, if_neg a, h1, ← EReal.coe_sub, sub_self]

/-- The pixel a column of the buffers comes from. -/
theorem pix_eq (p : ℕ) : 512 * (p / 128) + (256 * (p % 128 / 64) + 2 * (p % 128 % 64)) = pix p := by
  unfold pix; omega

/-- The first buffer holds the nearest pixels. -/
theorem gathered_near (v : ℕ → ℕ → ℝ) (r p : ℕ) : Scratch.gathered v Select.near r p = v r (pix p) := by
  unfold Scratch.gathered
  rw [Select.sum_near (fun k => v r (512 * (p / 128) + k)) _ (by omega), pix_eq]

/-- The second buffer holds the four pixels' means. -/
theorem gathered_mean (v : ℕ → ℕ → ℝ) (r p : ℕ) : Scratch.gathered v Select.mean r p
    = (1 / 4) * (v r (pix p) + v r (pix p + 1) + v r (pix p + 128) + v r (pix p + 129)) := by
  unfold Scratch.gathered
  rw [Select.sum_mean (fun k => v r (512 * (p / 128) + k)) _ (by omega)]
  simp only [← Nat.add_assoc]
  rw [Nat.add_assoc (512 * _), pix_eq]

section
variable (I S : ℕ → ℕ → ℝ) (ro : ℕ → ℝ)

/-- The colours at half size. -/
def colour (a p : ℕ) : ℝ := I a (pix p)

/-- The colours at half size, from the first buffer. -/
theorem pay82 : k0_pay82 (F := Ideal) (up (φ := .f32) (Scratch.gathered (rows I ro) Select.near)) = up (colour I) := by
  refine eq_up fun r c => ?_
  pointwise [k0_pay82]
  show ((_ : ℝ) : EReal) + ((_ : ℝ) : EReal) = _
  rw [← EReal.coe_add]
  show ((Scratch.gathered _ _ r.val c.val + Scratch.gathered _ _ (3 + r.val) c.val : ℝ) : EReal) = _
  have hr := r.isLt
  rw [gathered_near, gathered_near]
  unfold rows colour
  rw [if_pos hr, if_neg (by omega), if_pos (by omega), add_zero]

/-- The masked scores, from both buffers. -/
theorem pay83 : k0_pay83 (F := Ideal) (up (φ := .f32) (Scratch.gathered (rows I ro) Select.near))
    (up (φ := .f32) (Scratch.gathered (classRows S) Select.mean)) = up (masked S ro) := by
  refine eq_up fun r c => ?_
  pointwise [k0_pay83]
  unfold masked
  split_ifs with h
  · show (((_ : ℝ) : EReal) + ((_ : ℝ) : EReal)) * (((_ : ℝ) : EReal) + ((_ : ℝ) : EReal)) = _
    rw [← EReal.coe_add, ← EReal.coe_add, ← EReal.coe_mul]
    show (((Scratch.gathered _ _ r.val c.val + Scratch.gathered _ _ (21 + r.val) c.val)
      * (Scratch.gathered _ _ 6 c.val + Scratch.gathered _ _ 7 c.val) : ℝ) : EReal) = _
    rw [gathered_near, gathered_near, gathered_mean, gathered_mean]
    have h' : ¬ 21 + r.val < 21 := by omega
    simp [rows, classRows, h]
  · rfl

/-- The same rounded to the narrower format, as a real matrix. -/
theorem pay84 : k0_pay84 (F := Ideal) (up (φ := .f32) (Scratch.gathered (rows I ro) Select.near))
    (up (φ := .f32) (Scratch.gathered (classRows S) Select.mean)) = up (masked S ro) := by
  show truncf .bf16 (k0_pay83 _ _) bitsLt_bf16_f32 = _
  rw [pay83]
  exact truncf_up _ _

end

/-- The weights between pixels of the half-size image. -/
def weight (I : ℕ → ℕ → ℝ) : ℕ → ℕ → ℝ := Tiles.wgt (Features.leftRow (colour I)) (Features.rightRow (colour I))

/-- They are symmetric. -/
theorem weight_symm (I : ℕ → ℕ → ℝ) (i j : ℕ) : weight I i j = weight I j i := by
  unfold weight Tiles.wgt
  rw [Features.rows_product, Features.rows_product]
  have h : ∑ a ∈ Finset.range 5, Features.feat (colour I) a i * Features.feat (colour I) a j
      = ∑ a ∈ Finset.range 5, Features.feat (colour I) a j * Features.feat (colour I) a i :=
    Finset.sum_congr rfl fun _ _ => mul_comm _ _
  rw [h, add_right_comm]

/-- The block's output: for each class the weighted sum over all pairs of pixels. -/
theorem out (c : Dev nD) (i : grid0.Coords) (a1 h1 a2 h2 a3 h3 a4 h4 a5 h5 a6 h6)
    (x0 : Vec Ideal S1x3x16384 .f32) (x1 : Vec Ideal S1x21x16384 .f32) (x2 : Vec Ideal S1x1x16384 .f32)
    (I S : ℕ → ℕ → ℝ) (ro : ℕ → ℝ)
    (e0 : ∀ (a : Fin 3) (q : Fin 16384), x0 (ix3 (0 : Fin 1) a q) = ((I a.val q.val : ℝ) : EReal))
    (e1 : ∀ (a : Fin 21) (q : Fin 16384), x1 (ix3 (0 : Fin 1) a q) = ((S a.val q.val : ℝ) : EReal))
    (e2 : ∀ q : Fin 16384, x2 (ix3 (0 : Fin 1) (0 : Fin 1) q) = ((ro q.val : ℝ) : EReal)) (y : Fin 24) :
    out0_A_3 (F := Ideal) c i a1 h1 a2 h2 a3 h3 a4 h4 a5 h5 a6 h6 x0 x1 x2 (ix3 (0 : Fin 1) (0 : Fin 1) y)
      = ((∑ i ∈ Finset.range 4096, ∑ j ∈ Finset.range 4096, masked S ro y.val i * (weight I i j * masked S ro y.val j) : ℝ) : EReal) := by
  have hz : ∀ a : Fin 3, (![0, 0, 0] : Fin 3 → ℕ) a = 0 := by decide
  frame_open
  sl_unfold_run_names
  simp only [View.readAt_eq_ld, h1.read_unread, h2.read_unread, h3.read_unread]
  have l0 := View.ld_unit_lit (e := .f32) (Val := Elt Ideal) inb_S1x3x16384_S1x3x16384_0_0_0 x0 hz
  have l1 := View.ld_unit_lit (e := .f32) (Val := Elt Ideal) inb_S1x21x16384_S1x21x16384_0_0_0 x1 hz
  have l2 := View.ld_unit_lit (e := .f32) (Val := Elt Ideal) inb_S1x1x16384_S1x1x16384_0_0_0 x2 hz
  rw [l0, l1, l2, pay7 x0 x2 I ro e0 e2, Select.pay5, Select.pay6]
  have hz2 : ∀ a : Fin 2, (![0, 0] : Fin 2 → ℕ) a = 0 := by decide
  rw [Scratch.readCov_eq a5.view _ (up (Scratch.gathered (rows I ro) Select.near)) inb_S8x4096_S8x4096_0_0 ?_ ?_ hz2]
  rw [Scratch.readCov_eq a6.view _ (up (Scratch.gathered (classRows S) Select.mean)) inb_S42x4096_S42x4096_0_0 ?_ ?_ hz2]
  · rw [pay82, pay83, pay84, View.read_writes_junk_eq_canon, View.canon_cons_unit_lit inb_S1x1x24_S1x1x24_0_0_0 _ _ hz]
    have hw := Tiles.first (Features.pay91 (colour I)) (Features.pay92 (colour I))
    rw [Features.pay91, Features.pay92]
    rw [Tiles.squares _ _ _ hw]
    rw [Tiles.whole _ _ _ hw]
    rw [Tiles.last _ _ _ rfl rfl y]
    exact congrArg _ (Tiles.all_pairs _ _ (weight_symm I) _)
  · iterate 32 refine ⟨Scratch.stored (V := k0_pay11 (k0_pay8 x1) (k0_pay9 x1) (k0_pay10 x1)) (v := classRows S) _ ⟨⟨rfl, rfl⟩, ⟨rfl, rfl⟩, rfl, rfl⟩ (pay11 x1 S e1) _ _ _ (by decide) (by decide) (by decide), ?_⟩
    trivial
  · exact fun y => View.cover_of_tiledL _ ![42, 128] (by sl_kernel_rfl) y
  · iterate 32 refine ⟨Scratch.stored (V := up (rows I ro)) (v := rows I ro) _ ⟨⟨rfl, rfl⟩, ⟨rfl, rfl⟩, rfl, rfl⟩ rfl _ _ _ (by decide) (by decide) (by decide), ?_⟩
    trivial
  · exact fun y => View.cover_of_tiledL _ ![8, 128] (by sl_kernel_rfl) y

end Cert.Block

end
-- ==== Proof.KernelRun.lean ====
/- What the ideal kernel's run leaves in its result, over real arguments. -/
module

public import proofs.«01_k».proof.Proof.Block
public import Idealize.ShloMosaic.Lib.Quiescent
public import Idealize.ShloMosaic.Lib.StableHlo.Run

@[expose] public section

set_option maxRecDepth 16384

noncomputable section

namespace Cert.KernelRun

open Idealize.ShloMosaic Idealize.ShloMosaic.TcCoe Idealize.ShloMosaic.Exec Idealize.SL.Sem Cert.KernelIdeal Cert.KernelIdeal.Gen Cert.Mat

/-- One class's weighted sum over all pairs of pixels of one image. -/
def energy (I S : ℕ → ℕ → ℝ) (ro : ℕ → ℝ) (y : ℕ) : ℝ :=
  ∑ i ∈ Finset.range 4096, ∑ j ∈ Finset.range 4096, Block.masked S ro y i * (Block.weight I i j * Block.masked S ro y j)

/-- An image's rows laid end to end. -/
def flat (A : ℕ → ℕ → ℝ) (q : ℕ) : ℝ := A (q / 128) (q % 128)

/-- Image `b`'s sum for class `y`. -/
def sums (A B : ℕ → ℕ → ℕ → ℕ → ℝ) (R : ℕ → ℕ → ℕ → ℝ) (b y : ℕ) : ℝ :=
  energy (fun a => flat (A b a)) (fun k => flat (B b k)) (flat (R b)) y

section
variable (m : (ℓ : Loc nD τ sig) → Buf (Elt Ideal) ℓ) (ρ : Dev nD → PrngReg) (c : Dev nD)

/-- The region finds argument 0 with its pixels in a row. -/
theorem V_v0 : V m c main_v0 = shapeCast S4x3x16384 (m ((c : Thread nD τ).loc main_arg0)) shapeCasts_S4x3x128x128_S4x3x16384 := by
  unfold V V0
  simp only [List.flatten_cons, List.flatten_nil, List.append_nil]
  after_results
  rfl

/-- The region finds argument 1 with its pixels in a row. -/
theorem V_v1 : V m c main_v1 = shapeCast S4x21x16384 (m ((c : Thread nD τ).loc main_arg1)) shapeCasts_S4x21x128x128_S4x21x16384 := by
  unfold V V0
  simp only [List.flatten_cons, List.flatten_nil, List.append_nil]
  after_results
  rfl

/-- The region finds argument 2 with its pixels in a row. -/
theorem V_v2 : V m c main_v2 = shapeCast S4x1x16384 (m ((c : Thread nD τ).loc main_arg2)) shapeCasts_S4x128x128_S4x1x16384 := by
  unfold V V0
  simp only [List.flatten_cons, List.flatten_nil, List.append_nil]
  after_results
  rfl

variable (A B : ℕ → ℕ → ℕ → ℕ → ℝ) (R : ℕ → ℕ → ℕ → ℝ)
  (hA : ∀ (b : Fin 4) (a : Fin 3) (r s : Fin 128), m ((c : Thread nD τ).loc main_arg0) (ix4 b a r s) = ((A b.val a.val r.val s.val : ℝ) : EReal))
  (hB : ∀ (b : Fin 4) (a : Fin 21) (r s : Fin 128), m ((c : Thread nD τ).loc main_arg1) (ix4 b a r s) = ((B b.val a.val r.val s.val : ℝ) : EReal))
  (hR : ∀ (b : Fin 4) (r s : Fin 128), m ((c : Thread nD τ).loc main_arg2) (ix3 b r s) = ((R b.val r.val s.val : ℝ) : EReal))

include hA in
/-- The images as the region finds them. -/
theorem read0 (b : Fin 4) (a : Fin 3) (q : Fin 16384) : V m c main_v0 (ix3 b a q) = ((flat (A b.val a.val) q.val : ℝ) : EReal) := by
  rw [V_v0]; pointwise; exact hA _ _ _ _

include hB in
/-- The scores as the region finds them. -/
theorem read1 (b : Fin 4) (a : Fin 21) (q : Fin 16384) : V m c main_v1 (ix3 b a q) = ((flat (B b.val a.val) q.val : ℝ) : EReal) := by
  rw [V_v1]; pointwise; exact hB _ _ _ _

include hR in
/-- The regions of interest as the region finds them. -/
theorem read2 (b : Fin 4) (q : Fin 16384) : V m c main_v2 (ix3 b (0 : Fin 1) q) = ((flat (R b.val) q.val : ℝ) : EReal) := by
  have hq := q.isLt
  rw [V_v2, shapeCast_apply _ _ _ (ix3 b ⟨q.val / 128, by omega⟩ ⟨q.val % 128, by omega⟩)]
  · exact hR _ _ _
  · rw [Shape.rowMajor_val_three, Shape.rowMajor_val_three]
    show (b.val * 128 + q.val / 128) * 128 + q.val % 128 = (b.val * 1 + 0) * 16384 + q.val
    omega

include hA hB hR in
/-- The result array: each image's sums. -/
theorem result : (dats m 0 c).arrAt 3 cfg0.N = fun i => ((sums A B R (i 0).val (i 2).val : ℝ) : EReal) := by
  have e0 : ∀ t : Fin cfg0.N, win0_0.index t = ![(grid0.coords t 0).val, 0, 0] := (by decide +kernel : ∀ t : Fin grid0.N, _)
  have e1 : ∀ t : Fin cfg0.N, win0_1.index t = ![(grid0.coords t 0).val, 0, 0] := (by decide +kernel : ∀ t : Fin grid0.N, _)
  have e2 : ∀ t : Fin cfg0.N, win0_2.index t = ![(grid0.coords t 0).val, 0, 0] := (by decide +kernel : ∀ t : Fin grid0.N, _)
  have e3 : ∀ t : Fin cfg0.N, win0_3.index t = ![(grid0.coords t 0).val, 0, 0] := (by decide +kernel : ∀ t : Fin grid0.N, _)
  refine (dats m 0 c).arrAt_eq_of_covers 3 _ (by decide +kernel) fun t hf y => ?_
  blk_simp
  rw [after0_3]
  unfold outsAt0
  obtain ⟨k, rfl⟩ : ∃ k : Fin 24, y = ix3 (0 : Fin 1) (0 : Fin 1) k :=
    ⟨y 2, funext fun a => by
      match a with
      | ⟨0, _⟩ => exact Fin.ext (by have := (y 0).isLt; simpa using this)
      | ⟨1, _⟩ => exact Fin.ext (by have := (y 1).isLt; simpa using this)
      | ⟨2, _⟩ => rfl⟩
  have hb : win0_3.index t 0 < 4 := by rw [e3]; exact (grid0.coords t 0).isLt
  refine (Block.out c _ _ _ _ _ _ _ _ _ _ _ _ _ _ _ _ (fun a => flat (A (win0_3.index t 0) a)) (fun k => flat (B (win0_3.index t 0) k))
    (flat (R (win0_3.index t 0))) (fun a q => ?_) (fun a q => ?_) (fun q => ?_) k).trans ?_
  · refine Eq.trans ?_ (read0 m c A hA ⟨_, hb⟩ a q)
    blk_simp [iblk]
    exact congrArg (V m c main_v0) (by blk_ext [e0, e3])
  · refine Eq.trans ?_ (read1 m c B hB ⟨_, hb⟩ a q)
    blk_simp [iblk]
    exact congrArg (V m c main_v1) (by blk_ext [e1, e3])
  · refine Eq.trans ?_ (read2 m c R hR ⟨_, hb⟩ q)
    blk_simp [iblk]
    exact congrArg (V m c main_v2) (by blk_ext [e2, e3])
  · show _ = ((sums A B R _ (win0_3.index t 2 * 24 + k.val) : ℝ) : EReal)
    rw [show win0_3.index t 2 = 0 by rw [e3]; rfl, Nat.zero_mul, Nat.zero_add]
    rfl

include hA hB hR in
/-- The host's last lines: the sums' total, scaled. -/
theorem tail : Pipeline.afterTail₀ cfgs (dats m) 0 (V0 m) [hostOps1] c main_v5
    = fun _ => ((-(9007199 / 18014398509481984) * ∑ b ∈ Finset.range 4, ∑ y ∈ Finset.range 24, sums A B R b y : ℝ) : EReal) := by
  unfold Pipeline.afterTail₀
  simp only [List.flatten_cons, List.flatten_nil, List.append_nil]
  after_results
  rw [Pipeline.withArrays_arr spec0 (by decide) c _ _ 3, result m c A B R hA hB hR]
  funext i
  pointwise
  rw [Consts.neg_scale, EReal.coe_mul, Mat.coe_sum, ← Fin.sum_univ_eq_sum_range (fun b => ((∑ y ∈ Finset.range 24, sums A B R b y : ℝ) : EReal)) 4]
  refine congrArg _ (Finset.sum_congr rfl fun b _ => ?_)
  rw [Mat.coe_sum, ← Fin.sum_univ_eq_sum_range (fun y => ((sums A B R b.val y : ℝ) : EReal)) 24, Fin.sum_univ_one]

end

/-- Every run ends with the result so, and the arguments unchanged. -/
theorem run (m : (ℓ : Loc nD τ sig) → Buf (Elt Ideal) ℓ) (ρ : Dev nD → PrngReg) (A B : Dev nD → ℕ → ℕ → ℕ → ℕ → ℝ) (R : Dev nD → ℕ → ℕ → ℕ → ℝ)
    (hA : ∀ (c : Dev nD) (b : Fin 4) (a : Fin 3) (r s : Fin 128), m ((c : Thread nD τ).loc main_arg0) (ix4 b a r s) = ((A c b.val a.val r.val s.val : ℝ) : EReal))
    (hB : ∀ (c : Dev nD) (b : Fin 4) (a : Fin 21) (r s : Fin 128), m ((c : Thread nD τ).loc main_arg1) (ix4 b a r s) = ((B c b.val a.val r.val s.val : ℝ) : EReal))
    (hR : ∀ (c : Dev nD) (b : Fin 4) (r s : Fin 128), m ((c : Thread nD τ).loc main_arg2) (ix3 b r s) = ((R c b.val r.val s.val : ℝ) : EReal)) :
    θ_run defs (onTc (τ := τ) (main (F := Ideal))) ⟨m, fun _ => 0, ρ⟩ fun r => ∀ c : Dev nD,
      r.2.mem ((c : Thread nD τ).loc main_v5)
        = (fun _ => ((-(9007199 / 18014398509481984) * ∑ b ∈ Finset.range 4, ∑ y ∈ Finset.range 24, sums (A c) (B c) (R c) b y : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h.rest_eq c main_v5 (Pipeline.mem_restRefs_of main_v5 (by decide) (by decide))).trans (tail m c (A c) (B c) (R c) (hA c) (hB c) (hR c)),
      (h.rest_eq c main_arg0 (Pipeline.mem_restRefs_of main_arg0 (by decide) (by decide))).trans (W_main_arg0 m (dats m) c),
      (h.rest_eq c main_arg1 (Pipeline.mem_restRefs_of main_arg1 (by decide) (by decide))).trans (W_main_arg1 m (dats m) c),
      (h.rest_eq c main_arg2 (Pipeline.mem_restRefs_of main_arg2 (by decide) (by decide))).trans (W_main_arg2 m (dats m) c)⟩) (run_main m ρ)

end Cert.KernelRun

end
-- ==== Proof.Picks.lean ====
/- The reference's indexed reads: the index words it computes, the elements they pick, and the masked scores and the
   features that it makes of them, over real arguments. -/
module

public import proofs.«01_k».proof.Proof.Consts
public import proofs.«01_k».proof.Proof.Gen.ReferenceIdeal.Run
public import Idealize.ShloMosaic.Lib.Pointwise

@[expose] public section

set_option maxRecDepth 16384

noncomputable section

namespace Cert.Picks

open Idealize.ShloMosaic Cert.ReferenceIdeal Cert.ReferenceIdeal.Gen Cert.ReferenceIdeal.Value

/-- A table of index pairs from a column of row numbers and a row of column numbers, a negative number counted from
    the end. -/
abbrev pairs (a : IVec S64x1 32) (b : IVec S1x64 32) : IVec S64x64x2 32 :=
  concatenate S64x64x2 2 [⟨S64x64x1, (broadcastInDim S64x64x1 ![0, 1] bcast_S64x64_S64x64x1_0_1 (broadcastInDim S64x64 ![0, 1] bcast_S64x1_S64x64_0_1 (select (cmpi .slt a (broadcastInDim S64x1 ![] bcast_S_S64x1 (constantI S_ 32 0#32))) (addi a (broadcastInDim S64x1 ![] bcast_S_S64x1 (constantI S_ 32 128#32))) a)))⟩, ⟨S64x64x1, (broadcastInDim S64x64x1 ![0, 1] bcast_S64x64_S64x64x1_0_1 (broadcastInDim S64x64 ![0, 1] bcast_S1x64_S64x64_0_1 (select (cmpi .slt b (broadcastInDim S1x64 ![] bcast_S_S1x64 (constantI S_ 32 0#32))) (addi b (broadcastInDim S1x64 ![] bcast_S_S1x64 (constantI S_ 32 128#32))) b)))⟩] concatenates_S64x64x1_S64x64x1_S64x64x2_d2

/-- A number below 128 is not negative, so it is taken as it is. -/
theorem wrap : ∀ k : Fin 128, Scalar.select (IntOp.cmpi .slt (BitVec.ofNat 32 k.val) 0#32)
    (IntOp.addi (BitVec.ofNat 32 k.val) 128#32) (BitVec.ofNat 32 k.val) = BitVec.ofNat 32 k.val := by
  decide +kernel

/-- A number below 128 read off its word and clamped to 127 is itself. -/
theorem word_clamp : ∀ k : Fin 128, min (BitVec.ofNat 32 k.val).toInt.toNat 127 = k.val := by
  decide +kernel

/-- The first entry of a pair is the row number. -/
theorem pairs_row (a : IVec S64x1 32) (b : IVec S1x64 32) (r s : Fin 64) (k : Fin 128)
    (h : a (ix2 r (0 : Fin 1)) = BitVec.ofNat 32 k.val) : pairs a b (ix3 r s (0 : Fin 2)) = BitVec.ofNat 32 k.val := by
  pointwise [pairs]
  rw [h]
  exact wrap k

/-- The second entry of a pair is the column number. -/
theorem pairs_col (a : IVec S64x1 32) (b : IVec S1x64 32) (r s : Fin 64) (k : Fin 128)
    (h : b (ix2 (0 : Fin 1) s) = BitVec.ofNat 32 k.val) : pairs a b (ix3 r s (1 : Fin 2)) = BitVec.ofNat 32 k.val := by
  pointwise [pairs]
  rw [h]
  exact wrap k

/-- Dimension numbers that read, at each index pair, one element of every image and every channel. -/
abbrev grid (C : ℕ) (wf : GatherDims.WF ⟨4, ![4, C, 128, 128]⟩ S64x64x2 ⟨4, ![4, C, 64, 64]⟩ [0, 1] [2, 3] [] [2, 3] [] 2 ![4, C, 1, 1]) :
    GatherDims ⟨4, ![4, C, 128, 128]⟩ S64x64x2 ⟨4, ![4, C, 64, 64]⟩ where
  offsetDims := [0, 1]
  collapsedSliceDims := [2, 3]
  operandBatchingDims := []
  startIndicesBatchingDims := []
  startIndexMap := [2, 3]
  indexVectorDim := 2
  sliceSizes := ![4, C, 1, 1]
  wf := wf

/-- Such a read takes the element that the pair names. -/
theorem grid_at {α : Type} (C : ℕ)
    (wf : GatherDims.WF ⟨4, ![4, C, 128, 128]⟩ S64x64x2 ⟨4, ![4, C, 64, 64]⟩ [0, 1] [2, 3] [] [2, 3] [] 2 ![4, C, 1, 1])
    (x : (⟨4, ![4, C, 128, 128]⟩ : Shape).Idx → α) (idx : IVec S64x64x2 32) (b : Fin 4) (c : Fin C) (r s : Fin 64) (p q : Fin 128)
    (hp : idx (ix3 r s (0 : Fin 2)) = BitVec.ofNat 32 p.val) (hq : idx (ix3 r s (1 : Fin 2)) = BitVec.ofNat 32 q.val) :
    Host.gather (grid C wf) x idx (ix4 b c r s) = x (ix4 b c p q) := by
  refine congrArg x (funext fun a => Fin.ext ?_)
  show (grid C wf).start (ix4 b c r s) idx a + (grid C wf).batchCoord (ix4 b c r s) a + (grid C wf).offCoord (ix4 b c r s) a = _
  rw [GatherDims.batchCoord_eq_zero _ _ _ List.not_mem_nil]
  unfold GatherDims.start GatherDims.offCoord
  have cases : ∀ a : Fin 4, a = 0 ∨ a = 1 ∨ a = 2 ∨ a = 3 := by decide
  rcases cases a with rfl | rfl | rfl | rfl
  · rw [dif_neg (show ¬ (0 : Fin 4) ∈ (grid C wf).startIndexMap by simp [grid]),
      dif_pos (show (0 : Fin 4) ∈ (grid C wf).sKept from (GatherDims.mem_sKept _ _).mpr ⟨by simp [grid], by simp [grid]⟩)]
    show 0 + 0 + b.val = b.val
    omega
  · rw [dif_neg (show ¬ (1 : Fin 4) ∈ (grid C wf).startIndexMap by simp [grid]),
      dif_pos (show (1 : Fin 4) ∈ (grid C wf).sKept from (GatherDims.mem_sKept _ _).mpr ⟨by simp [grid], by simp [grid]⟩)]
    show 0 + 0 + c.val = c.val
    omega
  · rw [dif_pos (show (2 : Fin 4) ∈ (grid C wf).startIndexMap by simp [grid]),
      dif_neg (show ¬ (2 : Fin 4) ∈ (grid C wf).sKept from fun h => ((GatherDims.mem_sKept _ _).mp h).1 (by simp [grid]))]
    have e : (grid C wf).siIdx (ix4 b c r s) ⟨0, by simp [grid]⟩ = ix3 r s (0 : Fin 2) := by
      funext d
      exact Fin.ext (match d with | ⟨0, _⟩ => rfl | ⟨1, _⟩ => rfl | ⟨2, _⟩ => rfl)
    show min (idx ((grid C wf).siIdx (ix4 b c r s) ⟨0, _⟩)).toInt.toNat 127 + 0 + 0 = p.val
    rw [e, hp, word_clamp]
    rfl
  · rw [dif_pos (show (3 : Fin 4) ∈ (grid C wf).startIndexMap by simp [grid]),
      dif_neg (show ¬ (3 : Fin 4) ∈ (grid C wf).sKept from fun h => ((GatherDims.mem_sKept _ _).mp h).1 (by simp [grid]))]
    have e : (grid C wf).siIdx (ix4 b c r s) ⟨1, by simp [grid]⟩ = ix3 r s (1 : Fin 2) := by
      funext d
      exact Fin.ext (match d with | ⟨0, _⟩ => rfl | ⟨1, _⟩ => rfl | ⟨2, _⟩ => rfl)
    show min (idx ((grid C wf).siIdx (ix4 b c r s) ⟨1, _⟩)).toInt.toNat 127 + 0 + 0 = q.val
    rw [e, hq, word_clamp]
    rfl

/-- The same of arrays without channels. -/
theorem plane_at {α : Type} (x : S4x128x128.Idx → α) (idx : IVec S64x64x2 32) (b : Fin 4) (r s : Fin 64) (p q : Fin 128)
    (hp : idx (ix3 r s (0 : Fin 2)) = BitVec.ofNat 32 p.val) (hq : idx (ix3 r s (1 : Fin 2)) = BitVec.ofNat 32 q.val) :
    Host.gather gather_S4x128x128_S64x64x2_S4x64x64_0_12_n_n_12_2_411 x idx (ix3 b r s) = x (ix3 b p q) := by
  refine congrArg x (funext fun a => Fin.ext ?_)
  show gather_S4x128x128_S64x64x2_S4x64x64_0_12_n_n_12_2_411.start (ix3 b r s) idx a
    + gather_S4x128x128_S64x64x2_S4x64x64_0_12_n_n_12_2_411.batchCoord (ix3 b r s) a
    + gather_S4x128x128_S64x64x2_S4x64x64_0_12_n_n_12_2_411.offCoord (ix3 b r s) a = _
  rw [GatherDims.batchCoord_eq_zero _ _ _ List.not_mem_nil]
  unfold GatherDims.start GatherDims.offCoord
  have cases : ∀ a : Fin 3, a = 0 ∨ a = 1 ∨ a = 2 := by decide
  rcases cases a with rfl | rfl | rfl
  · rw [dif_neg (show ¬ (0 : Fin 3) ∈ gather_S4x128x128_S64x64x2_S4x64x64_0_12_n_n_12_2_411.startIndexMap by decide),
      dif_pos (show (0 : Fin 3) ∈ gather_S4x128x128_S64x64x2_S4x64x64_0_12_n_n_12_2_411.sKept from (GatherDims.mem_sKept _ _).mpr ⟨by decide, by decide⟩)]
    show 0 + 0 + b.val = b.val
    omega
  · rw [dif_pos (show (1 : Fin 3) ∈ gather_S4x128x128_S64x64x2_S4x64x64_0_12_n_n_12_2_411.startIndexMap by decide),
      dif_neg (show ¬ (1 : Fin 3) ∈ gather_S4x128x128_S64x64x2_S4x64x64_0_12_n_n_12_2_411.sKept from fun h => ((GatherDims.mem_sKept _ _).mp h).1 (by decide))]
    have e : gather_S4x128x128_S64x64x2_S4x64x64_0_12_n_n_12_2_411.siIdx (ix3 b r s) ⟨0, by decide⟩ = ix3 r s (0 : Fin 2) := by
      funext d
      exact Fin.ext (match d with | ⟨0, _⟩ => rfl | ⟨1, _⟩ => rfl | ⟨2, _⟩ => rfl)
    show min (idx (gather_S4x128x128_S64x64x2_S4x64x64_0_12_n_n_12_2_411.siIdx (ix3 b r s) ⟨0, _⟩)).toInt.toNat 127 + 0 + 0 = p.val
    rw [e, hp, word_clamp]
    rfl
  · rw [dif_pos (show (2 : Fin 3) ∈ gather_S4x128x128_S64x64x2_S4x64x64_0_12_n_n_12_2_411.startIndexMap by decide),
      dif_neg (show ¬ (2 : Fin 3) ∈ gather_S4x128x128_S64x64x2_S4x64x64_0_12_n_n_12_2_411.sKept from fun h => ((GatherDims.mem_sKept _ _).mp h).1 (by decide))]
    have e : gather_S4x128x128_S64x64x2_S4x64x64_0_12_n_n_12_2_411.siIdx (ix3 b r s) ⟨1, by decide⟩ = ix3 r s (1 : Fin 2) := by
      funext d
      exact Fin.ext (match d with | ⟨0, _⟩ => rfl | ⟨1, _⟩ => rfl | ⟨2, _⟩ => rfl)
    show min (idx (gather_S4x128x128_S64x64x2_S4x64x64_0_12_n_n_12_2_411.siIdx (ix3 b r s) ⟨1, _⟩)).toInt.toNat 127 + 0 + 0 = q.val
    rw [e, hq, word_clamp]
    rfl

/-- A real between a natural number and the next one, rounded down and made a word, is the number's word. -/
theorem floor_word (x : ℝ) (n : ℕ) (hn : n < 128) (h : (n : ℝ) ≤ x) (h' : x < n + 1) :
    Ideal.fptosi 32 (Ideal.liftRound Int.floor (x : EReal)) = BitVec.ofNat 32 n := by
  have e : ⌊x⌋ = (n : ℤ) := Int.floor_eq_iff.mpr ⟨by exact_mod_cast h, by exact_mod_cast h'⟩
  show BitVec.ofInt 32 (max _ (min _ (if (0 : ℝ) ≤ ((⌊x⌋ : ℤ) : ℝ) then ⌊((⌊x⌋ : ℤ) : ℝ)⌋ else ⌈((⌊x⌋ : ℤ) : ℝ)⌉))) = _
  rw [Int.floor_intCast, Int.ceil_intCast, ite_self, e, min_eq_right (by omega), max_eq_right (by omega)]
  exact BitVec.ofInt_natCast _ _

/-- A row number's word read as an integer. -/
theorem iota_int : ∀ i : Fin 64, (BitVec.ofNat 32 i.val).toInt = (i.val : ℤ) := by decide +kernel

/-- Twice a row number, rounded down and made a word. -/
theorem near (r : Fin 64) :
    Ideal.fptosi 32 (Ideal.liftRound Int.floor ((((BitVec.ofNat 32 r.val).toInt : ℝ) : EReal) * ((2 : ℝ) : EReal)))
      = BitVec.ofNat 32 (2 * r.val) := by
  rw [iota_int, ← EReal.coe_mul]
  exact floor_word _ _ (by omega) (by push_cast; linarith) (by push_cast; linarith)

variable (V0 : Valuation τ sig (Elt Ideal))

/-- The nearest pixel's row, as a word: twice the half-size image's. -/
theorem near_row (r : Fin 64) : res_main_v12 V0 (ix2 r (0 : Fin 1)) = BitVec.ofNat 32 (2 * r.val) := by
  pointwise [res_main_v12]
  rw [Consts.two]
  exact near r

/-- The nearest pixel's column, likewise. -/
theorem near_col (r : Fin 64) : res_main_v13 V0 (ix2 (0 : Fin 1) r) = BitVec.ofNat 32 (2 * r.val) := by
  pointwise [res_main_v13]
  rw [Consts.two]
  exact near r

/-- The word after an even row number's below 128. -/
theorem next_word : ∀ r : Fin 64, IntOp.minsi (IntOp.addi (BitVec.ofNat 32 (2 * r.val)) 1#32) 127#32 = BitVec.ofNat 32 (2 * r.val + 1) := by
  decide +kernel

/-- An even row number's word read as an integer. -/
theorem even_int : ∀ r : Fin 64, (BitVec.ofNat 32 (2 * r.val)).toInt = ((2 * r.val : ℕ) : ℤ) := by decide +kernel

/-- Where a half-size pixel's centre lies, as a coordinate of the full image. -/
theorem centre (r : Fin 64) : res_main_v37 V0 (ix1 r) = ((2 * r.val + 1 / 2 : ℝ) : EReal) := by
  pointwise [res_main_v37]
  show min (Ideal.ofBits .f32 0x42FE0000#32) (max (Ideal.ofBits .f32 0#32)
    (((((BitVec.ofNat 32 r.val).toInt : ℝ) : EReal) + Ideal.ofBits .f32 0x3F000000#32) * Ideal.ofBits .f32 0x40000000#32
      - Ideal.ofBits .f32 0x3F000000#32)) = _
  have low : (r.val : ℝ) ≤ 63 := by exact_mod_cast Nat.lt_succ_iff.mp r.isLt
  have high : (0 : ℝ) ≤ (r.val : ℝ) := Nat.cast_nonneg _
  rw [Consts.top, Ideal.ofBits_zero_f32, Consts.half, Consts.two, iota_int, ← EReal.coe_add, ← EReal.coe_mul, ← EReal.coe_sub,
    ← EReal.coe_zero, max_eq_right (EReal.coe_le_coe_iff.mpr (by push_cast; linarith)),
    min_eq_right (EReal.coe_le_coe_iff.mpr (by push_cast; linarith))]
  exact congrArg _ (by push_cast; ring)

/-- The row before the centre. -/
theorem below (r : Fin 64) : res_main_v39 V0 (ix1 r) = BitVec.ofNat 32 (2 * r.val) := by
  pointwise [res_main_v39]
  rw [centre]
  exact floor_word _ _ (by omega) (by push_cast; linarith) (by push_cast; linarith)

/-- The row after the centre. -/
theorem above (r : Fin 64) : res_main_v43 V0 (ix1 r) = BitVec.ofNat 32 (2 * r.val + 1) := by
  pointwise [res_main_v43]
  rw [below]
  exact next_word r

/-- How far the centre lies past the row before it. -/
theorem part (r : Fin 64) :
    (subf (res_main_v37 V0) (sitofp .f32 (res_main_v39 V0)) : FVec Ideal S64 .f32) (ix1 r) = ((1 / 2 : ℝ) : EReal) := by
  pointwise
  rw [below, centre]
  show ((_ : ℝ) : EReal) - (((BitVec.ofNat 32 (2 * r.val)).toInt : ℝ) : EReal) = _
  rw [even_int, ← EReal.coe_sub]
  exact congrArg _ (by push_cast; ring)

/-- The index words of one read of the scores: rows and columns each before or after the centre. -/
theorem scores_at (x : S4x21x128x128.Idx → EReal) (a : IVec S64x1 32) (d : IVec S1x64 32) (b : Fin 4) (k : Fin 21) (r s : Fin 64)
    (p q : Fin 128) (ha : a (ix2 r (0 : Fin 1)) = BitVec.ofNat 32 p.val) (hd : d (ix2 (0 : Fin 1) s) = BitVec.ofNat 32 q.val) :
    Host.gather gather_S4x21x128x128_S64x64x2_S4x21x64x64_01_23_n_n_23_2_42111 x (pairs a d) (ix4 b k r s) = x (ix4 b k p q) :=
  grid_at 21 _ x _ b k r s p q (pairs_row a d r s p ha) (pairs_col a d r s q hd)

/-- The half-size scores: each the mean of four neighbours. -/
theorem mean (S : ℕ → ℕ → ℕ → ℕ → ℝ)
    (hS : ∀ (b : Fin 4) (k : Fin 21) (p q : Fin 128), V0 (Proc.devRef .tc main_arg1) (ix4 b k p q) = ((S b.val k.val p.val q.val : ℝ) : EReal))
    (b : Fin 4) (k : Fin 21) (r s : Fin 64) :
    res_main_v162 V0 (ix4 b k r s) = (((1 / 4) * (S b.val k.val (2 * r.val) (2 * s.val) + S b.val k.val (2 * r.val) (2 * s.val + 1)
      + S b.val k.val (2 * r.val + 1) (2 * s.val) + S b.val k.val (2 * r.val + 1) (2 * s.val + 1)) : ℝ) : EReal) := by
  have pe : 2 * r.val < 128 := by omega
  have po : 2 * r.val + 1 < 128 := by omega
  have qe : 2 * s.val < 128 := by omega
  have qo : 2 * s.val + 1 < 128 := by omega
  have h00 := scores_at (V0 (Proc.devRef .tc main_arg1)) (res_main_v64 V0) (res_main_v65 V0) b k r s ⟨_, pe⟩ ⟨_, qe⟩
    (by pointwise [res_main_v64]; exact below V0 r) (by pointwise [res_main_v65]; exact below V0 s)
  have h01 := scores_at (V0 (Proc.devRef .tc main_arg1)) (res_main_v82 V0) (res_main_v83 V0) b k r s ⟨_, pe⟩ ⟨_, qo⟩
    (by pointwise [res_main_v82]; exact below V0 r) (by pointwise [res_main_v83]; exact above V0 s)
  have h10 := scores_at (V0 (Proc.devRef .tc main_arg1)) (res_main_v100 V0) (res_main_v101 V0) b k r s ⟨_, po⟩ ⟨_, qe⟩
    (by pointwise [res_main_v100]; exact above V0 r) (by pointwise [res_main_v101]; exact below V0 s)
  have h11 := scores_at (V0 (Proc.devRef .tc main_arg1)) (res_main_v118 V0) (res_main_v119 V0) b k r s ⟨_, po⟩ ⟨_, qo⟩
    (by pointwise [res_main_v118]; exact above V0 r) (by pointwise [res_main_v119]; exact above V0 s)
  rw [hS] at h00 h01 h10 h11
  have fr : res_main_v62 V0 (ix2 r (0 : Fin 1)) = ((1 / 2 : ℝ) : EReal) := part V0 r
  have fs : res_main_v63 V0 (ix2 (0 : Fin 1) s) = ((1 / 2 : ℝ) : EReal) := part V0 s
  unfold res_main_v162
  revert h00 h01 h10 h11 fr fs
  generalize Host.gather _ _ (pairs (res_main_v64 V0) (res_main_v65 V0)) = g00
  generalize Host.gather _ _ (pairs (res_main_v82 V0) (res_main_v83 V0)) = g01
  generalize Host.gather _ _ (pairs (res_main_v100 V0) (res_main_v101 V0)) = g10
  generalize Host.gather _ _ (pairs (res_main_v118 V0) (res_main_v119 V0)) = g11
  generalize res_main_v62 V0 = f
  generalize res_main_v63 V0 = g
  intro h00 h01 h10 h11 fr fs
  pointwise
  rw [h00, h01, h10, h11, fr, fs]
  rw [← EReal.coe_one]
  simp only [← EReal.coe_sub, ← EReal.coe_mul, ← EReal.coe_add]
  exact congrArg _ (by ring)

/-- A class's masked score at half size. -/
def score (S : ℕ → ℕ → ℕ → ℕ → ℝ) (R : ℕ → ℕ → ℕ → ℝ) (b k p : ℕ) : ℝ :=
  (1 / 4) * (S b k (2 * (p / 64)) (2 * (p % 64)) + S b k (2 * (p / 64)) (2 * (p % 64) + 1) + S b k (2 * (p / 64) + 1) (2 * (p % 64))
    + S b k (2 * (p / 64) + 1) (2 * (p % 64) + 1)) * R b (2 * (p / 64)) (2 * (p % 64))

/-- The masked scores. -/
theorem scores (S : ℕ → ℕ → ℕ → ℕ → ℝ) (R : ℕ → ℕ → ℕ → ℝ)
    (hS : ∀ (b : Fin 4) (k : Fin 21) (p q : Fin 128), V0 (Proc.devRef .tc main_arg1) (ix4 b k p q) = ((S b.val k.val p.val q.val : ℝ) : EReal))
    (hR : ∀ (b : Fin 4) (p q : Fin 128), V0 (Proc.devRef .tc main_arg2) (ix3 b p q) = ((R b.val p.val q.val : ℝ) : EReal))
    (b : Fin 4) (k : Fin 21) (p : Fin 4096) : res_main_v228 V0 (ix3 b k p) = ((score S R b.val k.val p.val : ℝ) : EReal) := by
  have hr : p.val / 64 < 64 := by omega
  have hs : p.val % 64 < 64 := Nat.mod_lt _ (by decide)
  have ho := plane_at (V0 (Proc.devRef .tc main_arg2)) (pairs (res_main_v175 V0) (res_main_v176 V0)) b ⟨_, hr⟩ ⟨_, hs⟩
    ⟨2 * (p.val / 64), by omega⟩ ⟨2 * (p.val % 64), by omega⟩ (pairs_row _ _ _ _ _ (near_row V0 ⟨_, hr⟩))
    (pairs_col _ _ _ _ _ (near_col V0 ⟨_, hs⟩))
  rw [hR] at ho
  have hm := mean V0 S hS b k ⟨_, hr⟩ ⟨_, hs⟩
  unfold res_main_v228
  revert ho hm
  generalize Host.gather _ _ (pairs (res_main_v175 V0) (res_main_v176 V0)) = g
  generalize res_main_v162 V0 = f
  intro ho hm
  pointwise
  rw [ho, hm, ← EReal.coe_mul]
  rfl

/-- A pixel's feature: its two coordinates over 50, then its three colours over 0.15 as the format holds it. -/
def feature (A : ℕ → ℕ → ℕ → ℕ → ℝ) (b p a : ℕ) : ℝ :=
  if a < 2 then (if a < 1 then ((p % 64 : ℕ) : ℝ) / 50 else ((p / 64 : ℕ) : ℝ) / 50)
  else A b (a - 2) (2 * (p / 64)) (2 * (p % 64)) / (5033165 / 33554432)

/-- The index words of the read of the colours. -/
theorem colours_at (x : S4x3x128x128.Idx → EReal) (b : Fin 4) (k : Fin 3) (r s : Fin 64) :
    Host.gather gather_S4x3x128x128_S64x64x2_S4x3x64x64_01_23_n_n_23_2_4311 x (pairs (res_main_v12 V0) (res_main_v13 V0)) (ix4 b k r s)
      = x (ix4 b k ⟨2 * r.val, by omega⟩ ⟨2 * s.val, by omega⟩) :=
  grid_at 3 _ x _ b k r s _ _ (pairs_row _ _ _ _ ⟨2 * r.val, by omega⟩ (near_row V0 r)) (pairs_col _ _ _ _ ⟨2 * s.val, by omega⟩ (near_col V0 s))

/-- A row number's word made a real. -/
theorem number (i : Fin 64) : (FloatOps.sitofp (F := Ideal) FTy.f32 (BitVec.ofNat 32 i.val) : EReal) = ((i.val : ℝ) : EReal) := by
  show (((BitVec.ofNat 32 i.val).toInt : ℝ) : EReal) = _
  rw [iota_int, Int.cast_natCast]

/-- A quotient of reals by a real other than zero. -/
theorem quot (x y : ℝ) (h : y ≠ 0) : Ideal.div (x : EReal) (y : EReal) = ((x / y : ℝ) : EReal) := by
  rw [Ideal.div_coe h, ← EReal.coe_mul, mul_one_div]

/-- The features. -/
theorem features (A : ℕ → ℕ → ℕ → ℕ → ℝ)
    (hA : ∀ (b : Fin 4) (k : Fin 3) (p q : Fin 128), V0 (Proc.devRef .tc main_arg0) (ix4 b k p q) = ((A b.val k.val p.val q.val : ℝ) : EReal))
    (b : Fin 4) (p : Fin 4096) (a : Fin 5) : res_main_v210 V0 (ix3 b p a) = ((feature A b.val p.val a.val : ℝ) : EReal) := by
  have ho := fun k r s => (colours_at V0 (V0 (Proc.devRef .tc main_arg0)) b k r s).trans (hA b k _ _)
  unfold res_main_v210
  revert ho
  generalize Host.gather _ _ (pairs (res_main_v12 V0) (res_main_v13 V0)) = g
  intro ho
  pointwise
  unfold feature
  by_cases h : a.val < 2
  · rw [dif_pos h, if_pos h, Consts.fifty]
    by_cases h' : a.val < 1
    · rw [dif_pos h', if_pos h', number ⟨p.val % 64, Nat.mod_lt _ (by decide)⟩]
      exact quot _ _ (by norm_num)
    · rw [dif_neg h', if_neg h', number ⟨p.val / 64, by omega⟩]
      exact quot _ _ (by norm_num)
  · rw [dif_neg h, if_neg h, ho, Consts.fifteen]
    exact quot _ _ (by norm_num)

end Cert.Picks

end
-- ==== Proof.RefRun.lean ====
/- What the ideal reference's run leaves in its result, over real arguments. -/
module

public import proofs.«01_k».proof.Proof.Picks
public import proofs.«01_k».proof.Proof.Mat

@[expose] public section

set_option maxRecDepth 16384

noncomputable section

namespace Cert.RefRun

open Idealize.ShloMosaic Idealize.ShloMosaic.TcCoe Idealize.ShloMosaic.StableHlo Idealize.SL.Sem
open Cert.ReferenceIdeal Cert.ReferenceIdeal.Gen Cert.ReferenceIdeal.Value

/-- The weight of a pair of pixels: the exponential of minus half their squared distance, held at zero from below. -/
def weight (f : ℕ → ℕ → ℝ) (p q : ℕ) : ℝ :=
  Real.exp (-(1 / 2) * max (∑ a ∈ Finset.range 5, f p a * f p a + ∑ a ∈ Finset.range 5, f q a * f q a
    - 2 * ∑ a ∈ Finset.range 5, f p a * f q a) 0)

/-- A sum over the first `n` numbers of reals read among the extended reals. -/
theorem fin_sum (n : ℕ) (f : ℕ → ℝ) : (∑ x : Fin n, ((f x.val : ℝ) : EReal)) = ((∑ a ∈ Finset.range n, f a : ℝ) : EReal) := by
  rw [Finset.sum_range, Mat.coe_sum]

variable (V0 : Valuation τ sig (Elt Ideal))

/-- The squared lengths of the features. -/
theorem lengths (f : ℕ → ℕ → ℕ → ℝ)
    (hf : ∀ (b : Fin 4) (p : Fin 4096) (a : Fin 5), res_main_v210 V0 (ix3 b p a) = ((f b.val p.val a.val : ℝ) : EReal))
    (b : Fin 4) (p : Fin 4096) :
    res_main_v212 V0 (ix2 b p) = ((∑ a ∈ Finset.range 5, f b.val p.val a * f b.val p.val a : ℝ) : EReal) := by
  unfold res_main_v212
  revert hf
  generalize res_main_v210 V0 = g
  intro hf
  pointwise
  simp only [hf, ← EReal.coe_mul]
  exact fin_sum 5 fun a => f b.val p.val a * f b.val p.val a

/-- The weights. -/
theorem weights (f : ℕ → ℕ → ℕ → ℝ) (g : FVec Ideal S4x4096x5 .f32) (n : FVec Ideal S4x4096 .f32)
    (hg : ∀ (b : Fin 4) (p : Fin 4096) (a : Fin 5), g (ix3 b p a) = ((f b.val p.val a.val : ℝ) : EReal))
    (hn : ∀ (b : Fin 4) (p : Fin 4096), n (ix2 b p) = ((∑ a ∈ Finset.range 5, f b.val p.val a * f b.val p.val a : ℝ) : EReal))
    (b : Fin 4) (p q : Fin 4096) :
    (Host.exp (mulf (broadcastInDim S4x4096x4096 ![] bcast_S_S4x4096x4096 (constant S_ .f32 0xBF000000#32)) (maximumf (subf (addf (broadcastInDim S4x4096x4096 ![0, 1, 2] bcast_S4x4096x1_S4x4096x4096_0_1_2 (broadcastInDim S4x4096x1 ![0, 1] bcast_S4x4096_S4x4096x1_0_1 n)) (broadcastInDim S4x4096x4096 ![0, 1, 2] bcast_S4x1x4096_S4x4096x4096_0_1_2 (broadcastInDim S4x1x4096 ![0, 2] bcast_S4x4096_S4x1x4096_0_2 n))) (mulf (broadcastInDim S4x4096x4096 ![] bcast_S_S4x4096x4096 (constant S_ .f32 0x40000000#32)) (Host.dotGeneral dot_S4x4096x5_S4x5x4096_S4x4096x4096_2_1_1_2_0_0 none g (transpose S4x5x4096 [0, 2, 1] g transposes_S4x4096x5_S4x5x4096_0_2_1)))) (broadcastInDim S4x4096x4096 ![] bcast_S_S4x4096x4096 (constant S_ .f32 0x00000000#32)))) : FVec Ideal S4x4096x4096 .f32) (ix3 b p q) = ((weight (f b.val) p.val q.val : ℝ) : EReal) := by
  pointwise
  simp only [hg, hn, ← EReal.coe_mul]
  rw [fin_sum 5 fun a => f b.val p.val a * f b.val q.val a, Consts.two, Consts.neg_half, ← EReal.coe_mul, ← EReal.coe_add, ← EReal.coe_sub,
    ← EReal.coe_zero, ← EReal.coe_strictMono.monotone.map_max, ← EReal.coe_mul]
  rfl

/-- One class's weighted sum over all pairs of pixels of one image. -/
def energy (s : ℕ → ℝ) (w : ℕ → ℕ → ℝ) : ℝ :=
  ∑ q ∈ Finset.range 4096, s q * ∑ p ∈ Finset.range 4096, s p * w p q

/-- The result of masked scores and weights. -/
theorem total (s : ℕ → ℕ → ℕ → ℝ) (w : ℕ → ℕ → ℕ → ℝ) (x : FVec Ideal S4x21x4096 .f32) (y : FVec Ideal S4x4096x4096 .f32)
    (hx : ∀ (b : Fin 4) (k : Fin 21) (p : Fin 4096), x (ix3 b k p) = ((s b.val k.val p.val : ℝ) : EReal))
    (hy : ∀ (b : Fin 4) (p q : Fin 4096), y (ix3 b p q) = ((w b.val p.val q.val : ℝ) : EReal)) :
    (mulf (constant S_ .f32 0x3109705F#32) (Host.divf (Host.negf (Host.reduceAdd (Host.reduceAdd (mulf x (Host.dotGeneral dot_S4x21x4096_S4x4096x4096_S4x21x4096_2_1_1_2_0_0 none x y)) (constant S_ .f32 0x00000000#32) reducesTo_S4x21x4096_S4_d1_2 h_S_) (constant S_ .f32 0x00000000#32) reducesTo_S4_S_d0 h_S_)) (constant S_ .f32 0x40800000#32)) : FVec Ideal S_ .f32)
      = fun _ => ((9007199 / 4503599627370496 * (-(∑ b ∈ Finset.range 4, ∑ k ∈ Finset.range 21, energy (s b k) (w b)) / 4) : ℝ) : EReal) := by
  funext i
  pointwise
  simp only [hx, hy, ← EReal.coe_mul]
  simp only [fun (b : Fin 4) (k : Fin 21) (q : Fin 4096) => fin_sum 4096 fun p => s b.val k.val p * w b.val p q.val, ← EReal.coe_mul]
  simp only [fun (b : Fin 4) (k : Fin 21) => fin_sum 4096 fun q => s b.val k.val q * ∑ p ∈ Finset.range 4096, s b.val k.val p * w b.val p q]
  simp only [fun b : Fin 4 => fin_sum 21 fun k => ∑ q ∈ Finset.range 4096, s b.val k q * ∑ p ∈ Finset.range 4096, s b.val k p * w b.val p q]
  rw [fin_sum 4 fun b => ∑ k ∈ Finset.range 21, ∑ q ∈ Finset.range 4096, s b k q * ∑ p ∈ Finset.range 4096, s b k p * w b p q,
    Consts.scale, Consts.four, ← EReal.coe_neg, Picks.quot _ _ (by norm_num), ← EReal.coe_mul]
  rfl

/-- What the reference leaves, of real arguments. -/
def value (A B : ℕ → ℕ → ℕ → ℕ → ℝ) (R : ℕ → ℕ → ℕ → ℝ) : ℝ :=
  9007199 / 4503599627370496 * (-(∑ b ∈ Finset.range 4, ∑ k ∈ Finset.range 21,
    energy (Picks.score B R b k) (weight (Picks.feature A b))) / 4)

/-- The reference, of real arguments: its result is `value` and its arguments stay. -/
theorem run (m : (ℓ : Loc nD τ sig) → Buf (Elt Ideal) ℓ) (ρ : Dev nD → PrngReg) (A B : Dev nD → ℕ → ℕ → ℕ → ℕ → ℝ)
    (R : Dev nD → ℕ → ℕ → ℕ → ℝ)
    (hA : ∀ (c : Dev nD) (b : Fin 4) (k : Fin 3) (p q : Fin 128), m ((c.tc : Thread nD τ).loc main_arg0) (ix4 b k p q) = ((A c b.val k.val p.val q.val : ℝ) : EReal))
    (hB : ∀ (c : Dev nD) (b : Fin 4) (k : Fin 21) (p q : Fin 128), m ((c.tc : Thread nD τ).loc main_arg1) (ix4 b k p q) = ((B c b.val k.val p.val q.val : ℝ) : EReal))
    (hR : ∀ (c : Dev nD) (b : Fin 4) (p q : Fin 128), m ((c.tc : Thread nD τ).loc main_arg2) (ix3 b p q) = ((R c b.val p.val q.val : ℝ) : EReal)) :
    θ_run defs (onTc (τ := τ) (main (F := Ideal))) ⟨m, fun _ => 0, ρ⟩ fun r => ∀ c : Dev nD,
      r.2.mem ((c.tc : Thread nD τ).loc main_v235) = (fun _ => ((value (A c) (B c) (R c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  have hf := Picks.features (launchContents m c) (A c) (hA c)
  exact total (Picks.score (B c) (R c)) (fun b => weight (Picks.feature (A c) b)) _ _
    (Picks.scores (launchContents m c) (B c) (R c) (hB c) (hR c))
    (weights (Picks.feature (A c)) _ _ hf (lengths (launchContents m c) _ hf))

end Cert.RefRun

end
-- ==== Proof.Agree.lean ====
/- The two values over real arguments are one: the kernel's powers of two are the reference's exponentials, and its
   three classes without scores add nothing. -/
module

public import proofs.«01_k».proof.Proof.KernelRun
public import proofs.«01_k».proof.Proof.RefRun

@[expose] public section

set_option maxRecDepth 16384

noncomputable section

namespace Cert.Agree

/-- Where pixel `p`'s first neighbour lies in the full image. -/
theorem flat_pix (X : ℕ → ℕ → ℝ) (p : ℕ) : KernelRun.flat X (Block.pix p) = X (2 * (p / 64)) (2 * (p % 64)) := by
  unfold KernelRun.flat Block.pix
  rw [show (256 * (p / 64) + 2 * (p % 64)) / 128 = 2 * (p / 64) by omega, show (256 * (p / 64) + 2 * (p % 64)) % 128 = 2 * (p % 64) by omega]

/-- Its right neighbour. -/
theorem flat_right (X : ℕ → ℕ → ℝ) (p : ℕ) : KernelRun.flat X (Block.pix p + 1) = X (2 * (p / 64)) (2 * (p % 64) + 1) := by
  unfold KernelRun.flat Block.pix
  rw [show (256 * (p / 64) + 2 * (p % 64) + 1) / 128 = 2 * (p / 64) by omega,
    show (256 * (p / 64) + 2 * (p % 64) + 1) % 128 = 2 * (p % 64) + 1 by omega]

/-- Its lower neighbour. -/
theorem flat_lower (X : ℕ → ℕ → ℝ) (p : ℕ) : KernelRun.flat X (Block.pix p + 128) = X (2 * (p / 64) + 1) (2 * (p % 64)) := by
  unfold KernelRun.flat Block.pix
  rw [show (256 * (p / 64) + 2 * (p % 64) + 128) / 128 = 2 * (p / 64) + 1 by omega,
    show (256 * (p / 64) + 2 * (p % 64) + 128) % 128 = 2 * (p % 64) by omega]

/-- Its lower right neighbour. -/
theorem flat_both (X : ℕ → ℕ → ℝ) (p : ℕ) : KernelRun.flat X (Block.pix p + 129) = X (2 * (p / 64) + 1) (2 * (p % 64) + 1) := by
  unfold KernelRun.flat Block.pix
  rw [show (256 * (p / 64) + 2 * (p % 64) + 129) / 128 = 2 * (p / 64) + 1 by omega,
    show (256 * (p / 64) + 2 * (p % 64) + 129) % 128 = 2 * (p % 64) + 1 by omega]

variable (A B : ℕ → ℕ → ℕ → ℕ → ℝ) (R : ℕ → ℕ → ℕ → ℝ) (b : ℕ)

/-- The masked scores of a class are the same. -/
theorem scores (k p : ℕ) (h : k < 21) :
    Block.masked (fun k => KernelRun.flat (B b k)) (KernelRun.flat (R b)) k p = Picks.score B R b k p := by
  unfold Block.masked Picks.score
  rw [if_pos h]
  simp only [flat_pix, flat_right, flat_lower, flat_both]

/-- The kernel's features are the reference's, each times the root of the binary logarithm of e. -/
theorem features (a p : ℕ) :
    Features.feat (Block.colour fun a => KernelRun.flat (A b a)) a p = Consts.rt * Picks.feature A b p a := by
  unfold Features.feat Picks.feature Block.colour
  rcases lt_or_ge a 1 with h | h
  · rw [if_pos h, if_pos (by omega), if_pos h]; ring
  rw [if_neg (by omega)]
  rcases lt_or_ge a 2 with h' | h'
  · rw [if_pos (by omega), if_pos h', if_neg (by omega)]; ring
  rw [if_neg (by omega), if_neg (by omega), show a - 1 - 1 = a - 2 by omega]
  show KernelRun.flat (A b (a - 2)) (Block.pix p) * _ = _
  rw [flat_pix]
  ring

/-- A power of two of a distance scaled down by the logarithm of two is an exponential of the distance. -/
theorem power (d : ℝ) : (2 : ℝ) ^ min (Consts.rt * Consts.rt * (-(1 / 2) * d)) 0 = Real.exp (-(1 / 2) * max d 0) := by
  rw [Real.rpow_def_of_pos (by norm_num)]
  refine congrArg _ ?_
  have hs : 0 ≤ Consts.rt * Consts.rt := mul_self_nonneg _
  rcases le_total d 0 with h | h
  · rw [max_eq_right h, min_eq_right (mul_nonneg hs (by linarith)), mul_zero, mul_zero]
  · rw [max_eq_left h, min_eq_left (mul_nonpos_of_nonneg_of_nonpos hs (by linarith))]
    calc Real.log 2 * (Consts.rt * Consts.rt * (-(1 / 2) * d)) = Consts.rt * Consts.rt * Real.log 2 * (-(1 / 2) * d) := by ring
      _ = -(1 / 2) * d := by rw [Consts.rt_sq, one_mul]

/-- The weights of a pair of pixels are the same. -/
theorem weights (i j : ℕ) :
    Block.weight (fun a => KernelRun.flat (A b a)) i j = RefRun.weight (Picks.feature A b) i j := by
  unfold Block.weight Tiles.wgt RefRun.weight
  rw [Features.rows_product, ← power]
  unfold Features.half
  simp only [features]
  have h : ∀ p q, ∑ a ∈ Finset.range 5, Consts.rt * Picks.feature A b p a * (Consts.rt * Picks.feature A b q a)
      = Consts.rt * Consts.rt * ∑ a ∈ Finset.range 5, Picks.feature A b p a * Picks.feature A b q a := by
    intro p q
    rw [Finset.mul_sum]
    exact Finset.sum_congr rfl fun a _ => by ring
  simp only [h]
  refine congrArg (fun z : ℝ => (2 : ℝ) ^ min z 0) ?_
  ring

/-- One class's sums are the same. -/
theorem energies (k : ℕ) (h : k < 21) :
    KernelRun.sums A B R b k = RefRun.energy (Picks.score B R b k) (RefRun.weight (Picks.feature A b)) := by
  unfold KernelRun.sums KernelRun.energy RefRun.energy
  refine Finset.sum_congr rfl fun i _ => ?_
  rw [Finset.mul_sum]
  refine Finset.sum_congr rfl fun j _ => ?_
  rw [scores B R b k i h, scores B R b k j h, Block.weight_symm, weights]
  ring

/-- A class without scores adds nothing. -/
theorem no_class (k : ℕ) (h : 21 ≤ k) : KernelRun.sums A B R b k = 0 := by
  have z : ∀ p, Block.masked (fun k => KernelRun.flat (B b k)) (KernelRun.flat (R b)) k p = 0 := fun p => if_neg (by omega)
  unfold KernelRun.sums KernelRun.energy
  simp only [z, zero_mul, Finset.sum_const_zero]

/-- The two results are the same real. -/
theorem values : -(9007199 / 18014398509481984) * ∑ b ∈ Finset.range 4, ∑ y ∈ Finset.range 24, KernelRun.sums A B R b y
    = RefRun.value A B R := by
  have h : ∀ b, ∑ y ∈ Finset.range 24, KernelRun.sums A B R b y
      = ∑ k ∈ Finset.range 21, RefRun.energy (Picks.score B R b k) (RefRun.weight (Picks.feature A b)) := by
    intro b
    rw [Finset.sum_range_succ, Finset.sum_range_succ, Finset.sum_range_succ, no_class A B R b 21 (by decide),
      no_class A B R b 22 (by decide), no_class A B R b 23 (by decide), add_zero, add_zero, add_zero]
    exact Finset.sum_congr rfl fun k hk => energies A B R b k (Finset.mem_range.mp hk)
  unfold RefRun.value
  simp only [h]
  ring

end Cert.Agree

end
-- ==== Proof.Value.lean ====
/- The value claim: on finite arguments the ideal kernel and the ideal reference leave the same result. -/
module

public import proofs.«01_k».proof.Defs
public import proofs.«01_k».proof.Proof.Agree
public import proofs.«01_k».proof.Proof.Gen.KernelIdeal
public import proofs.«01_k».proof.Proof.Gen.ReferenceIdeal
public import proofs.«01_k».proof.Proof.Gen.Pre_finite
public import Idealize.ShloMosaic.Lib.ReduceAll

@[expose] public section

set_option maxRecDepth 16384

noncomputable section

namespace Cert.Value

open Idealize.ShloMosaic Idealize.ShloMosaic.TcCoe Idealize.SL.Sem

/-- A value whose magnitude is below infinity is a real. -/
theorem real_of_below (x : EReal) (h : Ideal.cmp .olt (max x (-x)) (Ideal.ofBits .f32 0x7F800000#32) = 1#1) : x = (x.toReal : EReal) := by
  have inf : Ideal.ofBits .f32 0x7F800000#32 = ⊤ := by simp [Ideal.ofBits, Ideal.ieee]
  rw [inf] at h
  have lt : max x (-x) < ⊤ := by
    by_contra n
    have z : Ideal.cmp .olt (max x (-x)) ⊤ = 0#1 := by unfold Ideal.cmp; simp only [n, decide_false]; rfl
    rw [z] at h
    exact absurd h (by decide)
  have top : x ≠ ⊤ := fun e => absurd lt (by rw [e]; simp)
  have bot : x ≠ ⊥ := fun e => absurd lt (by rw [e]; simp)
  exact (EReal.coe_toReal top bot).symm

/-- The precondition says that every element of the three arguments is a real. -/
theorem reals (x : FVec Ideal Cert.Pre_finite.S4x3x128x128 .f32) (y : FVec Ideal Cert.Pre_finite.S4x21x128x128 .f32)
    (z : FVec Ideal Cert.Pre_finite.S4x128x128 .f32) (h : Cert.Pre_finite.fn (F := Ideal) x y z = fun _ => 1#1) :
    (∀ i, x i = ((x i).toReal : EReal)) ∧ (∀ i, y i = ((y i).toReal : EReal)) ∧ ∀ i, z i = ((z i).toReal : EReal) := by
  have one := congrFun h ix0
  dsimp only [Cert.Pre_finite.fn] at one
  obtain ⟨xy, hz⟩ := IntOp.andi_eq_one.1 one
  obtain ⟨hx, hy⟩ := IntOp.andi_eq_one.1 xy
  exact ⟨fun i => real_of_below _ (Host.reduce_andi_all _ _ _ _ _ hx i), fun i => real_of_below _ (Host.reduce_andi_all _ _ _ _ _ hy i),
    fun i => real_of_below _ (Host.reduce_andi_all _ _ _ _ _ hz i)⟩

/-- An array of four axes as a function of four numbers. -/
def four {C : ℕ} [NeZero C] (x : FVec Ideal ⟨4, ![4, C, 128, 128]⟩ .f32) (b k p q : ℕ) : ℝ :=
  (x (ix4 (Fin.ofNat 4 b) (Fin.ofNat C k) (Fin.ofNat 128 p) (Fin.ofNat 128 q))).toReal

/-- An array of three axes as a function of three numbers. -/
def three (x : FVec Ideal ⟨3, ![4, 128, 128]⟩ .f32) (b p q : ℕ) : ℝ := (x (ix3 (Fin.ofNat 4 b) (Fin.ofNat 128 p) (Fin.ofNat 128 q))).toReal

/-- A number below the bound, brought below it, is itself. -/
theorem ofNat_val {n : ℕ} [NeZero n] (k : Fin n) : Fin.ofNat n k.val = k := Fin.ext (Nat.mod_eq_of_lt k.isLt)

/-- The array of four axes holds what its function says. -/
theorem four_at {C : ℕ} [NeZero C] (x : FVec Ideal ⟨4, ![4, C, 128, 128]⟩ .f32) (h : ∀ i, x i = ((x i).toReal : EReal)) (b : Fin 4) (k : Fin C)
    (p q : Fin 128) : x (ix4 b k p q) = ((four x b.val k.val p.val q.val : ℝ) : EReal) := by
  unfold four
  rw [ofNat_val, ofNat_val, ofNat_val, ofNat_val]
  exact h _

/-- The array of three axes holds what its function says. -/
theorem three_at (x : FVec Ideal ⟨3, ![4, 128, 128]⟩ .f32) (h : ∀ i, x i = ((x i).toReal : EReal)) (b : Fin 4)
    (p q : Fin 128) : x (ix3 b p q) = ((three x b.val p.val q.val : ℝ) : EReal) := by
  unfold three
  rw [ofNat_val, ofNat_val, ofNat_val]
  exact h _

/-- On finite arguments the two leave the same result. -/
theorem algebraic : Cert.algebraic_KernelIdeal_ReferenceIdeal_pre_finite := by
  intro m g m' g' hp ha
  have fin := fun c => reals _ _ _ (hp c)
  refine ⟨fun c => fun _ => ((RefRun.value (four (C := 3) (m ((c.tc : Thread Cert.KernelIdeal.nD Cert.KernelIdeal.τ).loc Cert.KernelIdeal.main_arg0)))
      (four (C := 21) (m ((c.tc : Thread Cert.KernelIdeal.nD Cert.KernelIdeal.τ).loc Cert.KernelIdeal.main_arg1)))
      (three (m ((c.tc : Thread Cert.KernelIdeal.nD Cert.KernelIdeal.τ).loc Cert.KernelIdeal.main_arg2))) : ℝ) : EReal), ?_, ?_⟩
  · refine (θ_run _ _ _).mono (fun _ h c => ⟨(h c).1.trans (funext fun _ => congrArg _ (Agree.values _ _ _)), (h c).2⟩)
      (KernelRun.run m g _ _ _ (fun c => four_at _ (fin c).1) (fun c => four_at _ (fin c).2.1) (fun c => three_at _ (fin c).2.2))
  · exact RefRun.run m' g' _ _ _ (fun c b k p q => (congrFun (ha c).1 _).trans (four_at _ (fin c).1 b k p q))
      (fun c b k p q => (congrFun (ha c).2.1 _).trans (four_at _ (fin c).2.1 b k p q))
      (fun c b p q => (congrFun (ha c).2.2 _).trans (three_at _ (fin c).2.2 b p q))

end Cert.Value

end
-- ==== Proof.lean ====
/- The proof of the certificate's claim, assembled from the modules beside it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The claim: the frames, the ledger and the value. -/
theorem claim : Cert.Claim :=
  ⟨Cert.Kernel.Gen.facts, Cert.KernelIdeal.Gen.facts, Cert.ReferenceIdeal.Gen.facts, Cert.Pre_finite.Gen.facts,
    Frames.kernel, Frames.kernelIdeal, Frames.kernelIdealFinite, Frames.referenceIdeal, Frames.referenceIdealFinite,
    Frames.preserves, Value.algebraic⟩

end Cert.Proof

end
